-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S2x2048x16384 : Shape := ⟨3, ![2, 2048, 16384]⟩
abbrev S16384x5120 : Shape := ⟨2, ![16384, 5120]⟩
abbrev S5120 : Shape := ⟨1, ![5120]⟩
abbrev S16384x48 : Shape := ⟨2, ![16384, 48]⟩
abbrev S48x5120 : Shape := ⟨2, ![48, 5120]⟩
abbrev S_ : Shape := ⟨0, ![]⟩
abbrev S2x2048 : Shape := ⟨2, ![2, 2048]⟩

class Facts : Prop where
  bitsLt_bf16_f32 : FTy.bits .bf16 < FTy.bits .f32
  reducesTo_S2x2048x16384_S2x2048_d2 : S2x2048x16384.ReducesTo [2] S2x2048
  h_S_ : 0 < S_.numel
  bcast_S_S2x2048 : S_.BroadcastsInDim S2x2048 (![] : Fin 0 → Fin S2x2048.rank)

variable [Facts]

def fn {F : FTy → Type} [FloatOps F] (main_arg0 : FVec F S2x2048x16384 .bf16) (main_arg1 : FVec F S16384x5120 .fp8e4m3) (main_arg2 : FVec F S5120 .f32) (main_arg3 : FVec F S16384x48 .bf16) (main_arg4 : FVec F S48x5120 .bf16) (main_arg5 : FVec F S5120 .f32) : IVec S2x2048 1 :=
  let main_v0 : FVec F S2x2048x16384 .f32 := (extf .f32 · bitsLt_bf16_f32) main_arg0
  let main_v1 : FVec F S2x2048x16384 .f32 := Host.absf main_v0
  let main_cst : FVec F S_ .f32 := constant S_ .f32 0xFF800000#32
  let main_v2 : FVec F S2x2048 .f32 := (fun x v => Host.reduce FloatOps.maximumf x v reducesTo_S2x2048x16384_S2x2048_d2 h_S_) main_v1 main_cst
  let main_cst_0 : FVec F S_ .f32 := constant S_ .f32 0x3B124925#32
  let main_v3 : FVec F S2x2048 .f32 := broadcastInDim S2x2048 ![] bcast_S_S2x2048 main_cst_0
  let main_v4 : FVec F S2x2048 .f32 := mulf main_v2 main_v3
  let main_cst_1 : FVec F S_ .f32 := constant S_ .f32 0x00000000#32
  let main_v5 : FVec F S2x2048 .f32 := broadcastInDim S2x2048 ![] bcast_S_S2x2048 main_cst_1
  let main_v6 : IVec S2x2048 1 := cmpf .oeq main_v2 main_v5
  let main_cst_2 : FVec F S_ .f32 := constant S_ .f32 0x00800000#32
  let main_v7 : FVec F S2x2048 .f32 := broadcastInDim S2x2048 ![] bcast_S_S2x2048 main_cst_2
  let main_v8 : IVec S2x2048 1 := cmpf .oge main_v4 main_v7
  let main_cst_3 : FVec F S_ .f32 := constant S_ .f32 0x7E800000#32
  let main_v9 : FVec F S2x2048 .f32 := broadcastInDim S2x2048 ![] bcast_S_S2x2048 main_cst_3
  let main_v10 : IVec S2x2048 1 := cmpf .olt main_v4 main_v9
  let main_v11 : IVec S2x2048 1 := andi main_v8 main_v10
  let main_v12 : IVec S2x2048 1 := ori main_v6 main_v11
  main_v12
-- ==== Kernel.lean ====
abbrev S2x2048x16384 : Shape := ⟨3, ![2, 2048, 16384]⟩
abbrev S16384x5120 : Shape := ⟨2, ![16384, 5120]⟩
abbrev S5120 : Shape := ⟨1, ![5120]⟩
abbrev S16384x48 : Shape := ⟨2, ![16384, 48]⟩
abbrev S48x5120 : Shape := ⟨2, ![48, 5120]⟩
abbrev S4096x16384 : Shape := ⟨2, ![4096, 16384]⟩
abbrev S1x5120 : Shape := ⟨2, ![1, 5120]⟩
abbrev S4096x128 : Shape := ⟨2, ![4096, 128]⟩
abbrev S4096x48 : Shape := ⟨2, ![4096, 48]⟩
abbrev S128x16384 : Shape := ⟨2, ![128, 16384]⟩
abbrev S128x128 : Shape := ⟨2, ![128, 128]⟩
abbrev S128x48 : Shape := ⟨2, ![128, 48]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S16384x512 : Shape := ⟨2, ![16384, 512]⟩
abbrev S1x512 : Shape := ⟨2, ![1, 512]⟩
abbrev S48x512 : Shape := ⟨2, ![48, 512]⟩
abbrev S1024x48 : Shape := ⟨2, ![1024, 48]⟩
abbrev S1024x512 : Shape := ⟨2, ![1024, 512]⟩
abbrev S512 : Shape := ⟨1, ![512]⟩
abbrev S4096x5120 : Shape := ⟨2, ![4096, 5120]⟩
abbrev S1024x16384 : Shape := ⟨2, ![1024, 16384]⟩
abbrev S1024x128 : Shape := ⟨2, ![1024, 128]⟩
abbrev S1024x1 : Shape := ⟨2, ![1024, 1]⟩
abbrev S2x2048x5120 : Shape := ⟨3, ![2, 2048, 5120]⟩
abbrev S4096x1 : Shape := ⟨2, ![4096, 1]⟩
abbrev S4096 : Shape := ⟨1, ![4096]⟩
abbrev S2x2048 : Shape := ⟨2, ![2, 2048]⟩

abbrev nBuf : Space → Nat
  | .hbm => 20
  | .vmem => 36
  | .smem => 0
  | _ => 0

abbrev bufTy : (tb : Table) → Fin (tcTables nBuf tb) → BufTy
  | .hbm, ⟨0, _⟩ => ⟨S2x2048x16384, .bf16⟩
  | .hbm, ⟨1, _⟩ => ⟨S16384x5120, .fp8e4m3⟩
  | .hbm, ⟨2, _⟩ => ⟨S5120, .f32⟩
  | .hbm, ⟨3, _⟩ => ⟨S16384x48, .bf16⟩
  | .hbm, ⟨4, _⟩ => ⟨S48x5120, .bf16⟩
  | .hbm, ⟨5, _⟩ => ⟨S5120, .f32⟩
  | .hbm, ⟨6, _⟩ => ⟨S4096x16384, .bf16⟩
  | .hbm, ⟨7, _⟩ => ⟨S1x5120, .f32⟩
  | .hbm, ⟨8, _⟩ => ⟨S1x5120, .f32⟩
  | .hbm, ⟨9, _⟩ => ⟨S4096x16384, .fp8e4m3⟩
  | .hbm, ⟨10, _⟩ => ⟨S4096x128, .f32⟩
  | .hbm, ⟨11, _⟩ => ⟨S4096x48, .bf16⟩
  | .hbm, ⟨12, _⟩ => ⟨S1x5120, .f32⟩
  | .hbm, ⟨13, _⟩ => ⟨S4096x5120, .bf16⟩
  | .hbm, ⟨14, _⟩ => ⟨S2x2048x5120, .bf16⟩
  | .hbm, ⟨15, _⟩ => ⟨S5120, .f32⟩
  | .hbm, ⟨16, _⟩ => ⟨S2x2048x16384, .fp8e4m3⟩
  | .hbm, ⟨17, _⟩ => ⟨S4096x1, .f32⟩
  | .hbm, ⟨18, _⟩ => ⟨S4096, .f32⟩
  | .hbm, ⟨19, _⟩ => ⟨S2x2048, .f32⟩
  | .local _ .vmem, ⟨0, _⟩ => ⟨S128x16384, .bf16⟩
  | .local _ .vmem, ⟨1, _⟩ => ⟨S128x16384, .bf16⟩
  | .local _ .vmem, ⟨2, _⟩ => ⟨S16384x48, .bf16⟩
  | .local _ .vmem, ⟨3, _⟩ => ⟨S128x16384, .fp8e4m3⟩
  | .local _ .vmem, ⟨4, _⟩ => ⟨S128x16384, .fp8e4m3⟩
  | .local _ .vmem, ⟨5, _⟩ => ⟨S128x128, .f32⟩
  | .local _ .vmem, ⟨6, _⟩ => ⟨S128x128, .f32⟩
  | .local _ .vmem, ⟨7, _⟩ => ⟨S128x48, .bf16⟩
  | .local _ .vmem, ⟨8, _⟩ => ⟨S128x48, .bf16⟩
  | .local _ .vmem, ⟨9, _⟩ => ⟨S16384x512, .fp8e4m3⟩
  | .local _ .vmem, ⟨10, _⟩ => ⟨S16384x512, .fp8e4m3⟩
  | .local _ .vmem, ⟨11, _⟩ => ⟨S1x512, .f32⟩
  | .local _ .vmem, ⟨12, _⟩ => ⟨S1x512, .f32⟩
  | .local _ .vmem, ⟨13, _⟩ => ⟨S16384x48, .bf16⟩
  | .local _ .vmem, ⟨14, _⟩ => ⟨S48x512, .bf16⟩
  | .local _ .vmem, ⟨15, _⟩ => ⟨S48x512, .bf16⟩
  | .local _ .vmem, ⟨16, _⟩ => ⟨S1x512, .f32⟩
  | .local _ .vmem, ⟨17, _⟩ => ⟨S1x512, .f32⟩
  | .local _ .vmem, ⟨18, _⟩ => ⟨S1024x16384, .fp8e4m3⟩
  | .local _ .vmem, ⟨19, _⟩ => ⟨S1024x16384, .fp8e4m3⟩
  | .local _ .vmem, ⟨20, _⟩ => ⟨S16384x512, .fp8e4m3⟩
  | .local _ .vmem, ⟨21, _⟩ => ⟨S16384x512, .fp8e4m3⟩
  | .local _ .vmem, ⟨22, _⟩ => ⟨S1024x128, .f32⟩
  | .local _ .vmem, ⟨23, _⟩ => ⟨S1024x128, .f32⟩
  | .local _ .vmem, ⟨24, _⟩ => ⟨S1x512, .f32⟩
  | .local _ .vmem, ⟨25, _⟩ => ⟨S1x512, .f32⟩
  | .local _ .vmem, ⟨26, _⟩ => ⟨S1024x48, .bf16⟩
  | .local _ .vmem, ⟨27, _⟩ => ⟨S1024x48, .bf16⟩
  | .local _ .vmem, ⟨28, _⟩ => ⟨S48x512, .bf16⟩
  | .local _ .vmem, ⟨29, _⟩ => ⟨S48x512, .bf16⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1024x512, .bf16⟩
  | .local _ .vmem, ⟨35, _⟩ => ⟨S1024x512, .bf16⟩
  | _, _ => ⟨S2x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x48 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

@[reducible] def k1_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c1024_i32 : BitVec 32 := 1024#32
  let v8 : BitVec 32 := Scalar.muli arg6 c1024_i32
  v8
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let c1024_i32 : BitVec 32 := 1024#32
  let v8 : BitVec 32 := Scalar.muli arg6 c1024_i32
  let v9 : BitVec 32 := v8
  let v10 : Index := Scalar.indexCast v9
  let c0_6 : Index := 0#32
  ![v10.toNat, 0]
def k1_off2 (k1_t1 : Fin k1_t1_loop.trips) : Fin 2 → Nat :=
  let c0_i32 : BitVec 32 := 0#32
  let c1_i32 : BitVec 32 := 1#32
  let arg6 : BitVec 32 := Scf.iv c0_i32 c1_i32 k1_t1
  let c1024_i32 : BitVec 32 := 1024#32
  let v8 : BitVec 32 := Scalar.muli arg6 c1024_i32
  let v9 : BitVec 32 := v8
  let v13 : Index := Scalar.indexCast v9
  let c0_8 : Index := 0#32
  ![v13.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16384x512 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16384x48 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S48x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![4, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x16384 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S16384x512 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x48 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S48x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S1x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S1024x512 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== ReferenceIdeal.lean ====
abbrev S2x2048x16384 : Shape := ⟨3, ![2, 2048, 16384]⟩
abbrev S16384x5120 : Shape := ⟨2, ![16384, 5120]⟩
abbrev S5120 : Shape := ⟨1, ![5120]⟩
abbrev S16384x48 : Shape := ⟨2, ![16384, 48]⟩
abbrev S48x5120 : Shape := ⟨2, ![48, 5120]⟩
abbrev S4096x16384 : Shape := ⟨2, ![4096, 16384]⟩
abbrev S1x5120 : Shape := ⟨2, ![1, 5120]⟩
abbrev S4096x5120 : Shape := ⟨2, ![4096, 5120]⟩
abbrev S4096x1 : Shape := ⟨2, ![4096, 1]⟩
abbrev S4096 : Shape := ⟨1, ![4096]⟩
abbrev S4096x48 : Shape := ⟨2, ![4096, 48]⟩
abbrev S2x2048x5120 : Shape := ⟨3, ![2, 2048, 5120]⟩
abbrev S2x2048 : Shape := ⟨2, ![2, 2048]⟩

abbrev nBuf : Space → Nat
  | .hbm => 17
  | .vmem => 10
  | .smem => 0
  | _ => 0

abbrev bufTy : (tb : Table) → Fin (tcTables nBuf tb) → BufTy
  | .hbm, ⟨0, _⟩ => ⟨S2x2048x16384, .bf16⟩
  | .hbm, ⟨1, _⟩ => ⟨S16384x5120, .fp8e4m3⟩
  | .hbm, ⟨2, _⟩ => ⟨S5120, .f32⟩
  | .hbm, ⟨3, _⟩ => ⟨S16384x48, .bf16⟩
  | .hbm, ⟨4, _⟩ => ⟨S48x5120, .bf16⟩
  | .hbm, ⟨5, _⟩ => ⟨S5120, .f32⟩
  | .hbm, ⟨6, _⟩ => ⟨S4096x16384, .bf16⟩
  | .hbm, ⟨7, _⟩ => ⟨S1x5120, .f32⟩
  | .hbm, ⟨8, _⟩ => ⟨S1x5120, .f32⟩
  | .hbm, ⟨9, _⟩ => ⟨S4096x5120, .bf16⟩
  | .hbm, ⟨10, _⟩ => ⟨S1x5120, .f32⟩
  | .hbm, ⟨11, _⟩ => ⟨S4096x16384, .fp8e4m3⟩
  | .hbm, ⟨12, _⟩ => ⟨S4096x1, .f32⟩
  | .hbm, ⟨13, _⟩ => ⟨S2x2048x5120, .bf16⟩
  | .hbm, ⟨14, _⟩ => ⟨S5120, .f32⟩
  | .hbm, ⟨15, _⟩ => ⟨S2x2048x16384, .fp8e4m3⟩
  | .hbm, ⟨16, _⟩ => ⟨S2x2048, .f32⟩
  | .local _ .vmem, ⟨0, _⟩ => ⟨S4096x16384, .bf16⟩
  | .local _ .vmem, ⟨1, _⟩ => ⟨S16384x5120, .fp8e4m3⟩
  | .local _ .vmem, ⟨2, _⟩ => ⟨S1x5120, .f32⟩
  | .local _ .vmem, ⟨3, _⟩ => ⟨S16384x48, .bf16⟩
  | .local _ .vmem, ⟨4, _⟩ => ⟨S48x5120, .bf16⟩
  | .local _ .vmem, ⟨5, _⟩ => ⟨S1x5120, .f32⟩
  | .local _ .vmem, ⟨6, _⟩ => ⟨S4096x5120, .bf16⟩
  | .local _ .vmem, ⟨7, _⟩ => ⟨S1x5120, .f32⟩
  | .local _ .vmem, ⟨8, _⟩ => ⟨S4096x16384, .fp8e4m3⟩
  | .local _ .vmem, ⟨9, _⟩ => ⟨S4096x1, .f32⟩
  | _, _ => ⟨S2x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4096x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x48 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x16384 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Run.lean ====
/-
  THE RUN OF THE KERNEL WITH ITS RESULTS. The generated frame says that the kernel's arguments end unchanged. The same run
  says more: every array of @main ends at the contents that the fold over @main's five segments gives it (`W5`). This file
  states that run, and reads it at the four results and the six arguments.
-/
module

public import proofs.«01_k».proof.Proof.Gen.KernelIdeal.Frame
public import Idealize.ShloMosaic.Lib.Claim

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, and at its end every unscoped buffer holds what the fold over the segments of @main
    gives it: the generated frame's own launch, with the whole last thread state kept in the post. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c b hb => h c b hb)

/-- The run read at @main's results and arguments. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_v7) = W5 m ρ c (Proc.devRef .tc main_v7)
      ∧ r.2.mem ((c.tc : Thread nD τ).loc main_v8) = W5 m ρ c (Proc.devRef .tc main_v8)
      ∧ r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v6 (by decide)), h c _ (mem_uc main_v7 (by decide)),
     h c _ (mem_uc main_v8 (by decide)), h c _ (mem_uc main_v11 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Run

end
-- ==== Proof.Pow2.lean ====
/-
  POWERS OF TWO. The kernel chooses the scale of a token through the words of f32 numbers: it counts the powers of two that
  are not above `r = a / 448`, which gives the biased exponent of `r`, and builds the scale and its inverse by shifting a
  biased exponent into place. The layer's mathematics writes the same scale as `2 ^ (⌊log r / log 2⌋ + 1)`. This file is the
  agreement of the two on the extended reals, for a zero token and for `2^-126 ≤ r < 2^126`.
-/
module

public import Idealize.ShloMosaic.Lib.Claim
public import Idealize.ShloMosaic.Lib.Pointwise

@[expose] public section

noncomputable section

namespace Cert.Proof.Pow2

open Idealize.ShloMosaic

/-- The float whose word is the number `k` shifted into the exponent field. -/
def pw (k : BitVec 32) : EReal := Ideal.ofBits .f32 (IntOp.shli ArithUnit.vector k 23#32)

private theorem shl_ex : ∀ k : Fin 256,
    ((IntOp.shli ArithUnit.vector (BitVec.ofNat 32 k.val) 23#32).extractLsb' 23 8).toNat = k.val := by decide +kernel
private theorem shl_fr : ∀ k : Fin 256,
    ((IntOp.shli ArithUnit.vector (BitVec.ofNat 32 k.val) 23#32).extractLsb' 0 23).toNat = 0 := by decide +kernel
private theorem shl_neg : ∀ k : Fin 256,
    ((IntOp.shli ArithUnit.vector (BitVec.ofNat 32 k.val) 23#32).extractLsb' 31 1 == 1#1) = false := by decide +kernel

private theorem f32_eq (b : BitVec 32) : Ideal.ofBits .f32 b = Ideal.ieee 8 23 b := by simp only [Ideal.ofBits]

/-- The reading of a 32-bit float whose sign and trailing significand are zero. -/
private theorem ieee_pow (b : BitVec 32) (k : ℕ) (h1 : (b.extractLsb' 23 8).toNat = k)
    (h2 : (b.extractLsb' 0 23).toNat = 0) (h3 : (b.extractLsb' 31 1 == 1#1) = false) : Ideal.ieee 8 23 b
      = if k = 255 then ⊤ else if k = 0 then 0 else (((2 : ℝ) ^ ((k : ℤ) - 127) : ℝ) : EReal) := by
  unfold Ideal.ieee
  simp only [h1, h2, h3, Nat.reduceAdd]
  by_cases hk255 : k = 255
  · rw [if_pos hk255, if_pos (by omega)]; simp
  rw [if_neg (by omega : ¬ k = 2 ^ 8 - 1), if_neg hk255]
  by_cases hk0 : k = 0
  · rw [if_pos hk0, if_pos hk0]; simp
  rw [if_neg hk0, if_neg hk0]
  congr 1
  simp only [Bool.false_eq_true, if_false, one_mul, Nat.add_zero]
  rw [show ((2 ^ 23 : ℕ) : ℝ) = (2 : ℝ) ^ (23 : ℤ) by norm_num, ← zpow_add₀ (by norm_num)]
  congr 1
  omega

/-- The three kinds of such a float: zero, a power of two, plus infinity. -/
theorem pw_ofNat {k : ℕ} (hk : k < 256) : pw (BitVec.ofNat 32 k)
    = if k = 255 then ⊤ else if k = 0 then 0 else (((2 : ℝ) ^ ((k : ℤ) - 127) : ℝ) : EReal) := by
  unfold pw
  rw [f32_eq]
  exact ieee_pow _ k (shl_ex ⟨k, hk⟩) (shl_fr ⟨k, hk⟩) (shl_neg ⟨k, hk⟩)

private theorem log_coe (r : ℝ) : Ideal.log (r : EReal) = if r ≤ 0 then ⊥ else (Real.log r : EReal) := rfl
private theorem exp2_coe (r : ℝ) : Ideal.exp2 (r : EReal) = (((2 : ℝ) ^ r : ℝ) : EReal) := rfl
private theorem liftRound_coe (f : ℝ → ℤ) (r : ℝ) : Ideal.liftRound f (r : EReal) = ((f r : ℝ) : EReal) := rfl

/-- A power of two whose biased exponent is that of a normal number. -/
theorem pw_normal {k : ℕ} (h0 : 0 < k) (h1 : k < 255) :
    pw (BitVec.ofNat 32 k) = (((2 : ℝ) ^ ((k : ℤ) - 127) : ℝ) : EReal) := by
  rw [pw_ofNat (by omega), if_neg (by omega), if_neg (by omega)]

/-- Counting the lanes below `n` in 32-bit words gives `n`. -/
private theorem count_lt : ∀ n : Fin 257,
    Finset.fold IntOp.addi 0#32 (fun x : Fin 256 => if n.val ≤ x.val then 0#32 else 1#32) Finset.univ
      = BitVec.ofNat 32 n.val := by decide +kernel

/-- The factor 1/448 of the quantiser, as the f32 number it is. -/
def c448 : EReal := Ideal.ofBits .f32 991054117#32

/-- The number of the 256 floats `pw 0, pw 1, …` that are not above `r`. -/
def count (r : EReal) : BitVec 32 :=
  Finset.fold IntOp.addi 0#32
    (fun x : Fin 256 => if r < Ideal.ofBits .f32 (IntOp.shli ArithUnit.vector (BitVec.ofNat 32 x.val) 23#32)
      then 0#32 else 1#32) Finset.univ

/-- If exactly the floats from the `n`-th on are above `r`, the count is `n`. -/
theorem count_eq {r : EReal} (n : ℕ) (hn : n ≤ 256)
    (h : ∀ k : Fin 256, r < pw (BitVec.ofNat 32 k.val) ↔ n ≤ k.val) : count r = BitVec.ofNat 32 n := by
  rw [← count_lt ⟨n, by omega⟩]
  unfold count
  refine Finset.fold_congr fun k _ => ?_
  exact if_congr (h k) rfl rfl

/-- The kernel's biased exponent of the scale, out of the largest magnitude `A` of the token. -/
def biased (A : EReal) : BitVec 32 :=
  Scalar.select (IntOp.cmpi .eq (IntOp.subi (count (A * c448)) 1#32) 0#32) 127#32
    (IntOp.addi (IntOp.subi (count (A * c448)) 1#32) 1#32)

/-- The layer's exponent of the scale, out of the same magnitude. -/
def expo (A : EReal) : EReal :=
  if A = 0 then 0 else
    Ideal.liftRound Int.floor (Ideal.div (Ideal.log (A * c448)) (Ideal.log (Ideal.ofBits .f32 1073741824#32))) + 1

/-- A token the quantiser is claimed on: zero, or its scale and the inverse of its scale are normal. -/
def Good (A : EReal) : Prop :=
  A = 0 ∨ (Ideal.ofBits .f32 8388608#32 ≤ A * c448 ∧ A * c448 < Ideal.ofBits .f32 2122317824#32)

theorem two_f32 : Ideal.ofBits .f32 1073741824#32 = ((2 : ℝ) : EReal) := by
  have h := pw_normal (k := 128) (by omega) (by omega)
  rw [show (1073741824#32 : BitVec 32) = IntOp.shli ArithUnit.vector (BitVec.ofNat 32 128) 23#32 by decide]
  refine h.trans ?_
  norm_num

theorem low_f32 : Ideal.ofBits .f32 8388608#32 = (((2 : ℝ) ^ (-126 : ℤ) : ℝ) : EReal) := by
  have h := pw_normal (k := 1) (by omega) (by omega)
  rw [show (8388608#32 : BitVec 32) = IntOp.shli ArithUnit.vector (BitVec.ofNat 32 1) 23#32 by decide]
  exact h.trans (by norm_num)

theorem high_f32 : Ideal.ofBits .f32 2122317824#32 = (((2 : ℝ) ^ (126 : ℤ) : ℝ) : EReal) := by
  have h := pw_normal (k := 253) (by omega) (by omega)
  rw [show (2122317824#32 : BitVec 32) = IntOp.shli ArithUnit.vector (BitVec.ofNat 32 253) 23#32 by decide]
  exact h.trans (by norm_num)

/-- A zero token: one float (the zero) is not above it. -/
theorem biased_zero : biased 0 = 127#32 := by
  have h : count (0 * c448) = BitVec.ofNat 32 1 := by
    refine count_eq 1 (by omega) fun k => ?_
    rw [zero_mul, pw_ofNat k.isLt]
    split_ifs with h1 h2
    · exact ⟨fun _ => by omega, fun _ => EReal.zero_lt_top⟩
    · simp [h2]
    · refine ⟨fun _ => by omega, fun _ => ?_⟩
      exact_mod_cast (zpow_pos (by norm_num : (0 : ℝ) < 2) _)
  unfold biased
  rw [h]
  decide

/-- A real `r` has as many floats not above it as its binary exponent says. -/
theorem count_real {r : ℝ} {L : ℤ} (h1 : -126 ≤ L) (h2 : L ≤ 125) (hlo : (2 : ℝ) ^ L ≤ r) (hhi : r < (2 : ℝ) ^ (L + 1)) :
    count (r : EReal) = BitVec.ofNat 32 (L + 128).toNat := by
  refine count_eq _ (by omega) fun k => ?_
  have hr : 0 < r := lt_of_lt_of_le (zpow_pos (by norm_num) _) hlo
  rw [pw_ofNat k.isLt]
  split_ifs with h3 h4
  · exact ⟨fun _ => by omega, fun _ => EReal.coe_lt_top _⟩
  · constructor
    · intro h
      have : r < 0 := by exact_mod_cast h
      linarith
    · omega
  · rw [EReal.coe_lt_coe_iff]
    constructor
    · intro h
      have := (zpow_lt_zpow_iff_right₀ (by norm_num : (1 : ℝ) < 2)).1 (lt_of_le_of_lt hlo h)
      omega
    · intro h
      refine lt_of_lt_of_le hhi ((zpow_le_zpow_iff_right₀ (by norm_num : (1 : ℝ) < 2)).2 ?_)
      omega

/-- The word arithmetic that turns the count into the biased exponent. -/
private theorem biased_word : ∀ n : Fin 257, 2 ≤ n.val →
    Scalar.select (IntOp.cmpi .eq (IntOp.subi (BitVec.ofNat 32 n.val) 1#32) 0#32) 127#32
      (IntOp.addi (IntOp.subi (BitVec.ofNat 32 n.val) 1#32) 1#32) = BitVec.ofNat 32 n.val := by decide +kernel

private theorem inv_word : ∀ n : Fin 255, IntOp.subi 254#32 (BitVec.ofNat 32 n.val) = BitVec.ofNat 32 (254 - n.val) := by
  decide +kernel

/-- A good token has a biased exponent `n` of a normal number whose complement is normal too, and the layer's exponent is
    `n - 127`. -/
theorem good_spec {A : EReal} (h : Good A) :
    ∃ n : ℕ, 0 < n ∧ n < 254 ∧ biased A = BitVec.ofNat 32 n ∧ expo A = ((((n : ℤ) - 127 : ℤ) : ℝ) : EReal) := by
  rcases h with h | ⟨h1, h2⟩
  · subst h
    exact ⟨127, by omega, by omega, biased_zero, by simp [expo]⟩
  · have hA : A ≠ 0 := by
      rintro rfl
      rw [zero_mul, low_f32] at h1
      have h3 : (2 : ℝ) ^ (-126 : ℤ) ≤ 0 := by exact_mod_cast h1
      have h4 : (0 : ℝ) < (2 : ℝ) ^ (-126 : ℤ) := zpow_pos (by norm_num) _
      linarith
    unfold biased expo
    rw [if_neg hA]
    generalize A * c448 = r at h1 h2
    rw [low_f32] at h1
    rw [high_f32] at h2
    induction r with
    | bot => exact absurd h1 (by simp)
    | top => exact absurd h2 (by simp)
    | coe r =>
      rw [EReal.coe_le_coe_iff] at h1
      rw [EReal.coe_lt_coe_iff] at h2
      have hr : 0 < r := lt_of_lt_of_le (zpow_pos (by norm_num) _) h1
      have hl2 : 0 < Real.log 2 := Real.log_pos (by norm_num)
      set L : ℤ := ⌊Real.log r / Real.log 2⌋ with hL
      have hlo : (2 : ℝ) ^ L ≤ r := by
        rw [← Real.log_le_log_iff (zpow_pos (by norm_num) _) hr, Real.log_zpow, ← le_div_iff₀ hl2]
        exact Int.floor_le _
      have hhi : r < (2 : ℝ) ^ (L + 1) := by
        rw [← Real.log_lt_log_iff hr (zpow_pos (by norm_num) _), Real.log_zpow, ← div_lt_iff₀ hl2]
        push_cast
        exact Int.lt_floor_add_one _
      have hL1 : -126 ≤ L := by
        have := (zpow_lt_zpow_iff_right₀ (by norm_num : (1 : ℝ) < 2)).1 (lt_of_le_of_lt h1 hhi)
        omega
      have hL2 : L ≤ 125 := by
        have := (zpow_lt_zpow_iff_right₀ (by norm_num : (1 : ℝ) < 2)).1 (lt_of_le_of_lt hlo h2)
        omega
      refine ⟨(L + 128).toNat, by omega, by omega, ?_, ?_⟩
      · rw [count_real hL1 hL2 hlo hhi]
        exact biased_word ⟨(L + 128).toNat, by omega⟩ (by dsimp only; omega)
      · have hlog : Ideal.div (Ideal.log ((r : ℝ) : EReal)) (Ideal.log (Ideal.ofBits .f32 1073741824#32))
            = ((Real.log r / Real.log 2 : ℝ) : EReal) := by
          rw [two_f32]
          rw [log_coe, log_coe]
          rw [if_neg (not_le.2 hr), if_neg (by norm_num)]
          unfold Ideal.div
          rw [if_neg (by exact_mod_cast hl2.ne')]
          rw [← EReal.coe_inv, ← EReal.coe_mul, div_eq_mul_inv]
        rw [hlog]
        rw [liftRound_coe, ← hL]
        rw [show (((L + 128).toNat : ℤ) - 127 : ℤ) = L + 1 by omega]
        push_cast
        rfl

/-- The scale: the shifted biased exponent is two to the layer's exponent. -/
theorem scale_eq {A : EReal} (h : Good A) :
    Ideal.ofBits .f32 (IntOp.shli ArithUnit.vector (biased A) 23#32) = Ideal.exp2 (expo A) := by
  obtain ⟨n, h0, h1, hb, he⟩ := good_spec h
  rw [hb, he, exp2_coe, Real.rpow_intCast]
  exact pw_normal h0 (by omega)

/-- The inverse scale: 254 minus the biased exponent, shifted, is two to minus the layer's exponent. -/
theorem inv_eq {A : EReal} (h : Good A) :
    Ideal.ofBits .f32 (IntOp.shli ArithUnit.vector (IntOp.subi 254#32 (biased A)) 23#32) = Ideal.exp2 (0 - expo A) := by
  obtain ⟨n, h0, h1, hb, he⟩ := good_spec h
  have hn : -((n : ℤ) - 127) = ((254 - n : ℕ) : ℤ) - 127 := by omega
  rw [hb, he, inv_word ⟨n, by omega⟩, zero_sub, ← EReal.coe_neg, ← Int.cast_neg, hn, exp2_coe, Real.rpow_intCast]
  exact pw_normal (k := 254 - n) (by omega) (by omega)

/-- The least extended real, as a maximum over a row is started: the bf16 and the f32 word of minus infinity. -/
theorem neg_inf_bf16 : Ideal.ofBits .bf16 65408#16 = ⊥ := by
  simp [Ideal.ofBits, Ideal.ieee]

theorem neg_inf_f32 : Ideal.ofBits .f32 4286578688#32 = ⊥ := by
  simp [Ideal.ofBits, Ideal.ieee]

end Cert.Proof.Pow2

end
-- ==== Proof.Spec.lean ====
/-
  THE LAYER'S MATHEMATICS AT AN INDEX, on the extended reals: the quantiser of a token, the norm of a column of the updated
  weight, and an element of the output. The kernel's results and the reference's are both read in these words.
-/
module

public import proofs.«01_k».proof.Proof.Pow2

@[expose] public section

noncomputable section

namespace Cert.Proof.Spec

open Idealize.ShloMosaic Cert.Proof.Pow2

/-- The largest magnitude of a token. -/
def amax {K : ℕ} (x : Fin K → EReal) : EReal :=
  Finset.fold max ⊥ (fun k => FloatOps.absf (F := Ideal) (φ := .f32) (x k)) Finset.univ

/-- The power-of-two scale of a token. -/
def scale {K : ℕ} (x : Fin K → EReal) : EReal := Ideal.exp2 (expo (amax x))

/-- The code of element `k` of a token: the element over the scale, clipped to plus and minus 448. -/
def code {K : ℕ} (x : Fin K → EReal) (k : Fin K) : EReal :=
  min (Ideal.ofBits .f32 1138753536#32) (max (Ideal.ofBits .f32 3286237184#32) (x k * Ideal.exp2 (0 - expo (amax x))))

/-- The norm of a column `w` of codes with scale `s`, updated by the low-rank product of `a` with the column `b`. -/
def colNorm {K R : ℕ} (w : Fin K → EReal) (s : EReal) (a : Fin K → Fin R → EReal) (b : Fin R → EReal) : EReal :=
  Ideal.sqrt (∑ k, (w k * s + ∑ q, a k q * b q) * (w k * s + ∑ q, a k q * b q))

/-- An element of the output: the scaled product of the codes plus the low-rank product, times the magnitude over the norm
    (over one where the norm is zero). -/
def outAt {K R : ℕ} (xc : Fin K → EReal) (xs : EReal) (t : Fin R → EReal) (w : Fin K → EReal) (s : EReal) (b : Fin R → EReal)
    (g nrm : EReal) : EReal :=
  ((∑ k, xc k * w k) * xs * s + ∑ q, t q * b q) * Ideal.div g (if nrm = 0 then 1 else nrm)

end Cert.Proof.Spec

end
-- ==== Proof.KPay.lean ====
/-
  THE KERNEL'S BLOCKS AT AN INDEX. What the bodies of the three calls compute from the blocks they hold, read at one place of
  the block they store: the scale and the codes of a token and its low-rank product (first call), one trip of the column
  norm's loop (second call), an element of the output (third call).
-/
module

public import proofs.«01_k».proof.Proof.Gen.KernelIdeal.Skeleton
public import proofs.«01_k».proof.Proof.Spec
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen
open Idealize.ShloMosaic Cert.Proof.Spec Cert.Proof.Pow2

theorem pay3_eq (v : Vec Ideal S128x16384 .bf16) : k0_pay3 v = v := shapeCast_self _ _

/-- The maximum along a row, kept as a column. -/
theorem rowmax (v : FVec Ideal S128x16384 .bf16) (r : Fin 128) :
    (shapeCast S128x1 (multiReduction .maximumf [1] S128 v 0xFF80#16 reduces_S128x16384_S128 (.inr rfl) rfl)
      shapeCasts_S128_S128x1) (ix2 r 0) = Finset.fold max ⊥ (fun k => v (ix2 r k)) Finset.univ := by
  pointwise
  rw [neg_inf_bf16]

/-- The count of the powers of two not above the value of each row of a column. -/
def countCol (w : FVec Ideal S128x1 .f32) : IVec S128x1 32 :=
  shapeCast S128x1 (multiReductionI .add [1] S128
    (select (cmpf .olt (broadcastTo S128x256 w broadcasts_S128x1_S128x256)
        (broadcastTo S128x256 (bitcastToFloat .f32 (shli (iota .tc S1x256 32 [1] iota_S1x256_d1_w32)
          (broadcast S1x256 23#32))) broadcasts_S1x256_S128x256))
      (broadcast S128x256 0#32) (broadcast S128x256 1#32)) 0#32 reduces_S128x256_S128 rfl) shapeCasts_S128_S128x1

theorem countCol_at (w : FVec Ideal S128x1 .f32) (r : Fin 128) : countCol w (ix2 r 0) = Cert.Proof.Pow2.count (w (ix2 r 0)) := by
  unfold countCol Cert.Proof.Pow2.count
  pointwise

/-- The biased exponent of the scale, out of the counts. -/
def biasedCol (n : IVec S128x1 32) : IVec S128x1 32 :=
  select (cmpi .eq (subi n (broadcast S128x1 1#32)) (broadcast S128x1 0#32)) (broadcast S128x1 127#32)
    (addi (subi n (broadcast S128x1 1#32)) (broadcast S128x1 1#32))

theorem biasedCol_at (n : IVec S128x1 32) (r : Fin 128) : biasedCol n (ix2 r 0)
    = Scalar.select (IntOp.cmpi .eq (IntOp.subi (n (ix2 r 0)) 1#32) 0#32) 127#32
        (IntOp.addi (IntOp.subi (n (ix2 r 0)) 1#32) 1#32) := by
  unfold biasedCol
  pointwise

/-- The column of magnitudes times 1/448. -/
def ratioCol (v : FVec Ideal S128x1 .bf16) : FVec Ideal S128x1 .f32 :=
  mulf (extf .f32 v bitsLt_bf16_f32) (broadcast S128x1 (Scalar.ofBits .f32 0x3B124925#32))

theorem ratioCol_at (v : FVec Ideal S128x1 .bf16) (r : Fin 128) : ratioCol v (ix2 r 0) = v (ix2 r 0) * c448 := by
  unfold ratioCol c448
  pointwise

theorem pay4_eq (x : Vec Ideal S128x16384 .bf16) : k0_pay4 x = biasedCol (countCol (ratioCol (shapeCast S128x1
    (multiReduction .maximumf [1] S128 (absf (φ := .bf16) (k0_pay3 x)) 0xFF80#16 reduces_S128x16384_S128 (.inr rfl) rfl)
      shapeCasts_S128_S128x1))) := by
  unfold k0_pay4 biasedCol countCol ratioCol
  rfl

private theorem amax_eq (y : Fin 16384 → EReal) :
    Finset.fold max ⊥ (fun k => FloatOps.absf (F := Ideal) (φ := .bf16) (y k)) Finset.univ = amax y := by
  unfold amax
  rfl

private theorem abs_at (x : FVec Ideal S128x16384 .bf16) (i : S128x16384.Idx) :
    absf x i = FloatOps.absf (F := Ideal) (φ := .bf16) (x i) := by
  pointwise

/-- The biased exponent of the scale of row `r`. -/
theorem pay4_at (x : Vec Ideal S128x16384 .bf16) (r : Fin 128) :
    k0_pay4 x (ix2 r 0) = biased (amax fun k => x (ix2 r k)) := by
  unfold biased
  rw [pay4_eq, biasedCol_at, countCol_at, ratioCol_at, rowmax, pay3_eq]
  simp only [abs_at]
  rw [amax_eq]

private theorem scale_at (n : IVec S128x1 32) (r l : Fin 128) :
    broadcastTo S128x128 (shapeCast S128x1 (bitcastToFloat (F := Ideal) .f32 (shli n (broadcast S128x1 23#32)))
      shapeCasts_S128x1_S128x1) broadcasts_S128x1_S128x128 (ix2 r l)
      = Ideal.ofBits .f32 (IntOp.shli ArithUnit.vector (n (ix2 r 0)) 23#32) := by
  rw [shapeCast_self]
  pointwise

/-- The scale of row `r`, in every lane. -/
theorem pay5_at (x : Vec Ideal S128x16384 .bf16) (r l : Fin 128) (h : Good (amax fun k => x (ix2 r k))) :
    k0_pay5 x (ix2 r l) = scale fun k => x (ix2 r k) := by
  have h4 := pay4_at x r
  unfold k0_pay5 scale
  generalize k0_pay4 x = n at h4 ⊢
  rw [← scale_eq h, ← h4]
  exact scale_at n r l

private theorem inv_at (n : IVec S128x1 32) (r : Fin 128) (k : Fin 16384) :
    broadcastTo S128x16384 (truncf .bf16 (bitcastToFloat (F := Ideal) .f32
      (shli (subi (broadcast S128x1 254#32) n) (broadcast S128x1 23#32))) bitsLt_bf16_f32)
      broadcasts_S128x1_S128x16384 (ix2 r k)
      = Ideal.ofBits .f32 (IntOp.shli ArithUnit.vector (IntOp.subi 254#32 (n (ix2 r 0))) 23#32) := by
  pointwise

/-- The inverse scale of row `r`, in every column. -/
theorem pay6_at (x : Vec Ideal S128x16384 .bf16) (r : Fin 128) (k : Fin 16384) (h : Good (amax fun k => x (ix2 r k))) :
    k0_pay6 x (ix2 r k) = Ideal.exp2 (0 - expo (amax fun k => x (ix2 r k))) := by
  have h4 := pay4_at x r
  unfold k0_pay6
  generalize k0_pay4 x = n at h4 ⊢
  rw [← inv_eq h, ← h4]
  exact inv_at n r k

private theorem clip_at (x v : FVec Ideal S128x16384 .bf16) (r : Fin 128) (k : Fin 16384) :
    k0_pay1 x v (ix2 r k) = min (Ideal.ofBits .f32 1138753536#32)
      (max (Ideal.ofBits .f32 3286237184#32) (x (ix2 r k) * v (ix2 r k))) := by
  unfold k0_pay1
  pointwise

/-- The code of element `k` of row `r`. -/
theorem pay1_at (x : Vec Ideal S128x16384 .bf16) (r : Fin 128) (k : Fin 16384) (h : Good (amax fun k => x (ix2 r k))) :
    k0_pay1 x (k0_pay6 x) (ix2 r k) = code (fun k => x (ix2 r k)) k := by
  have h6 := pay6_at x r k h
  unfold code
  generalize k0_pay6 x = v at h6 ⊢
  rw [← h6]
  exact clip_at x v r k

/-- The product of row `r` with column `q` of the first low-rank factor. -/
theorem pay2_at (x : Vec Ideal S128x16384 .bf16) (a : Vec Ideal S16384x48 .bf16) (r : Fin 128) (q : Fin 48) :
    k0_pay2 x a (ix2 r q) = ∑ k, x (ix2 r k) * a (ix2 k q) := by
  unfold k0_pay2
  pointwise

/-- The second call's loop starts at zero. -/
theorem k1_pay1_at (n : Fin 512) : k1_pay1 (F := Ideal) (ix2 0 n) = 0 := by
  unfold k1_pay1
  pointwise

/-- One trip of the second call's loop adds the squares of its 1024 rows. -/
theorem k1_pay2_at (s : Vec Ideal S1x512 .f32) (b : Vec Ideal S48x512 .bf16) (acc : FVec Ideal S1x512 .f32)
    (a : Vec Ideal S1024x48 .bf16) (w : Vec Ideal S1024x512 .fp8e4m3) (n : Fin 512) :
    k1_pay2 s b acc a w (ix2 0 n) = acc (ix2 0 n)
      + ∑ k, (w (ix2 k n) * s (ix2 0 n) + ∑ q, a (ix2 k q) * b (ix2 q n))
          * (w (ix2 k n) * s (ix2 0 n) + ∑ q, a (ix2 k q) * b (ix2 q n)) := by
  unfold k1_pay2
  rw [shapeCast_self]
  pointwise

theorem k1_pay3_at (v : FVec Ideal S1x512 .f32) (n : Fin 512) : k1_pay3 v (ix2 0 n) = Ideal.sqrt (v (ix2 0 n)) := by
  unfold k1_pay3
  pointwise

/-- The third call's block at row `r` and column `n`. -/
theorem k2_pay1_at (xc : Vec Ideal S1024x16384 .fp8e4m3) (w : Vec Ideal S16384x512 .fp8e4m3) (t : Vec Ideal S1024x48 .bf16)
    (b : Vec Ideal S48x512 .bf16) (nrm g : Vec Ideal S1x512 .f32) (xs : Vec Ideal S1024x1 .f32) (s : Vec Ideal S1x512 .f32)
    (r : Fin 1024) (n : Fin 512) :
    k2_pay1 xc w t b nrm g xs s (ix2 r n)
      = outAt (fun k => xc (ix2 r k)) (xs (ix2 r 0)) (fun q => t (ix2 r q)) (fun k => w (ix2 k n)) (s (ix2 0 n))
          (fun q => b (ix2 q n)) (g (ix2 0 n)) (nrm (ix2 0 n)) := by
  unfold k2_pay1 outAt
  simp only [shapeCast_self]
  pointwise

end Cert.KernelIdeal.Val

end
-- ==== Proof.KQuant.lean ====
/-
  THE FIRST CALL'S THREE ARRAYS. A grid of 32 points, each over 128 tokens: after the call the three result arrays hold, at
  every token, its codes, its scale (the same in every lane) and its product with the first low-rank factor.
-/
module

public import proofs.«01_k».proof.Proof.Gen.KernelIdeal.Frame
public import proofs.«01_k».proof.Proof.KPay

@[expose] public section

set_option maxRecDepth 16384

noncomputable section

namespace Cert.KernelIdeal.Quant

open Cert.KernelIdeal Cert.KernelIdeal.Gen Cert.KernelIdeal.Val
open Idealize.ShloMosaic Idealize.ShloMosaic.TcCoe Idealize.SL.Sem
open Idealize.ShloMosaic.Pipeline (Dat)
open Cert.Proof.Spec Cert.Proof.Pow2

variable (V : (c : Dev nD) → (b : Ref sig .tc) → Buf (Elt Ideal) ((c : Thread nD τ).loc b))

theorem idx : ∀ t : Fin cfg0.N, t.val < 32 ∧ win0_0.index t = ![t.val, 0] ∧ win0_1.index t = ![0, 0]
    ∧ win0_2.index t = ![t.val, 0] ∧ win0_3.index t = ![t.val, 0] ∧ win0_4.index t = ![t.val, 0] :=
  (by decide +kernel : ∀ t : Fin grid0.N, _)

/-- The token that row `r` of point `t` is. -/
def tok (t : Fin cfg0.N) (r : Fin 128) : Fin 4096 := ⟨t.val * 128 + r.val, by have := (idx t).1; omega⟩

/-- The tokens' array, as the call finds it. -/
abbrev X (c : Dev nD) : FVec Ideal S4096x16384 .bf16 := V c main_v0
/-- The first low-rank factor, as the call finds it. -/
abbrev A (c : Dev nD) : FVec Ideal S16384x48 .bf16 := V c main_arg3

theorem x_at (c : Dev nD) (t : Fin cfg0.N) (r : Fin 128) (k : Fin 16384) :
    (iblk0 V c 0 t : FVec Ideal S128x16384 .bf16) (ix2 r k) = X V c (ix2 (tok t r) k) := by
  blk_ext [iblk0, idx t, tok]

theorem a_at (c : Dev nD) (t : Fin cfg0.N) (k : Fin 16384) (q : Fin 48) :
    (iblk0 V c 1 t : FVec Ideal S16384x48 .bf16) (ix2 k q) = A V c (ix2 k q) := by
  blk_ext [iblk0, idx t]

/-- The three arrays as functions of the tokens. -/
def codes (x : FVec Ideal S4096x16384 .bf16) : FVec Ideal S4096x16384 .fp8e4m3 :=
  fun i => code (fun k => x (ix2 (i 0) k)) (i 1)
def scales (x : FVec Ideal S4096x16384 .bf16) : FVec Ideal S4096x128 .f32 :=
  fun i => scale (fun k => x (ix2 (i 0) k))
def low (x : FVec Ideal S4096x16384 .bf16) (a : FVec Ideal S16384x48 .bf16) : FVec Ideal S4096x48 .bf16 :=
  fun i => ∑ k, x (ix2 (i 0) k) * a (ix2 k (i 1))

variable (hG : ∀ (c : Dev nD) (r : Fin 4096), Good (amax fun k => X V c (ix2 r k)))

include hG in
theorem codes_pt (c : Dev nD) (t : Fin cfg0.N) (r : Fin 128) (k : Fin 16384) :
    k0_pay1 (iblk0 V c 0 t) (k0_pay6 (iblk0 V c 0 t)) (ix2 r k) = codes (X V c) (ix2 (tok t r) k) := by
  have hx : (fun k => (iblk0 V c 0 t : FVec Ideal S128x16384 .bf16) (ix2 r k)) = fun k => X V c (ix2 (tok t r) k) :=
    funext fun k => x_at V c t r k
  have h := pay1_at (iblk0 V c 0 t) r k (by rw [hx]; exact hG c _)
  rw [hx] at h
  exact h

include hG in
theorem scales_pt (c : Dev nD) (t : Fin cfg0.N) (r l : Fin 128) :
    k0_pay5 (iblk0 V c 0 t) (ix2 r l) = scales (X V c) (ix2 (tok t r) l) := by
  have hx : (fun k => (iblk0 V c 0 t : FVec Ideal S128x16384 .bf16) (ix2 r k)) = fun k => X V c (ix2 (tok t r) k) :=
    funext fun k => x_at V c t r k
  have h := pay5_at (iblk0 V c 0 t) r l (by rw [hx]; exact hG c _)
  rw [hx] at h
  exact h

theorem low_pt (c : Dev nD) (t : Fin cfg0.N) (r : Fin 128) (q : Fin 48) :
    k0_pay2 (iblk0 V c 0 t) (iblk0 V c 1 t) (ix2 r q) = low (X V c) (A V c) (ix2 (tok t r) q) := by
  have h := pay2_at (iblk0 V c 0 t) (iblk0 V c 1 t) r q
  simp only [x_at, a_at] at h
  exact h

theorem emb2 (t : Fin cfg0.N) (r : Fin 128) (k : Fin 16384) :
    ((cfg0.win 2).blk t).view.emb (ix2 r k : S128x16384.Idx) = (ix2 (tok t r) k : S4096x16384.Idx) := by
  blk_ext [idx t, tok]

theorem emb3 (t : Fin cfg0.N) (r l : Fin 128) :
    ((cfg0.win 3).blk t).view.emb (ix2 r l : S128x128.Idx) = (ix2 (tok t r) l : S4096x128.Idx) := by
  blk_ext [idx t, tok]

theorem emb4 (t : Fin cfg0.N) (r : Fin 128) (q : Fin 48) :
    ((cfg0.win 4).blk t).view.emb (ix2 r q : S128x48.Idx) = (ix2 (tok t r) q : S4096x48.Idx) := by
  blk_ext [idx t, tok]

theorem hz : (![0, 0] : Fin 2 → Nat) = fun _ => 0 := funext fun a => by fin_cases a <;> rfl

theorem ld_whole (x : Vec Ideal S128x16384 .bf16) : View.ld x r0_0 = x :=
  View.ld_unit_zero (S := S128x16384) hz _ x

include hG in
/-- The codes' array after the call. -/
theorem final_codes (c : Dev nD) : (dat0 V c).arrAt 2 cfg0.N = codes (X V c) := by
  refine (dat0 V c).arrAt_eq_of_covers 2 _ (by decide +kernel) fun t hf y => ?_
  blk_simp
  rw [after0_2]
  frame_out
  unfold k0_pay7
  rw [pay3_eq, ld_whole]
  obtain ⟨r, k, rfl⟩ : ∃ r k, y = (ix2 r k : S128x16384.Idx) := ⟨y 0, y 1, eq_ix2 y⟩
  exact (codes_pt V hG c t r k).trans (congrArg _ (emb2 t r k).symm)

include hG in
/-- The scales' array after the call. -/
theorem final_scales (c : Dev nD) : (dat0 V c).arrAt 3 cfg0.N = scales (X V c) := by
  refine (dat0 V c).arrAt_eq_of_covers 3 _ (by decide +kernel) fun t hf y => ?_
  blk_simp
  rw [after0_3]
  frame_out
  obtain ⟨r, l, rfl⟩ : ∃ r l, y = (ix2 r l : S128x128.Idx) := ⟨y 0, y 1, eq_ix2 y⟩
  exact (scales_pt V hG c t r l).trans (congrArg _ (emb3 t r l).symm)

/-- The low-rank product's array after the call. -/
theorem final_low (c : Dev nD) : (dat0 V c).arrAt 4 cfg0.N = low (X V c) (A V c) := by
  refine (dat0 V c).arrAt_eq_of_covers 4 _ (by decide +kernel) fun t hf y => ?_
  blk_simp
  rw [after0_4]
  frame_out
  unfold k0_pay7
  rw [pay3_eq, ld_whole]
  obtain ⟨r, q, rfl⟩ : ∃ r q, y = (ix2 r q : S128x48.Idx) := ⟨y 0, y 1, eq_ix2 y⟩
  exact (low_pt V c t r q).trans (congrArg _ (emb4 t r q).symm)

end Cert.KernelIdeal.Quant

end
-- ==== Proof.KNorm.lean ====
/-
  THE SECOND CALL'S ARRAY. A grid of 10 points, each over 512 columns; a loop of 16 trips adds the squares of 1024 rows at a
  time. After the call the array holds the norm of every column of the updated weight.
-/
module

public import proofs.«01_k».proof.Proof.Gen.KernelIdeal.Frame
public import proofs.«01_k».proof.Proof.KPay

@[expose] public section

set_option maxRecDepth 16384

noncomputable section

namespace Cert.KernelIdeal.Norm

open Cert.KernelIdeal Cert.KernelIdeal.Gen Cert.KernelIdeal.Val
open Idealize.ShloMosaic Idealize.ShloMosaic.TcCoe Idealize.SL.Sem
open Idealize.ShloMosaic.Pipeline (Dat)
open Cert.Proof.Spec Cert.Proof.Pow2

variable (V : (c : Dev nD) → (b : Ref sig .tc) → Buf (Elt Ideal) ((c : Thread nD τ).loc b))

theorem hz : (![0, 0] : Fin 2 → Nat) = fun _ => 0 := funext fun a => by fin_cases a <;> rfl

theorem idx : ∀ t : Fin cfg1.N, t.val < 10 ∧ win1_0.index t = ![0, t.val] ∧ win1_1.index t = ![0, t.val]
    ∧ win1_2.index t = ![0, 0] ∧ win1_3.index t = ![0, t.val] ∧ win1_4.index t = ![0, t.val] :=
  (by decide +kernel : ∀ t : Fin grid1.N, _)

theorem trips : k1_t1_loop.trips = 16 := by decide

/-- The row of the arrays that row `j` of trip `k` is. -/
def row (k : Fin k1_t1_loop.trips) (j : Fin 1024) : Fin 16384 := ⟨k.val * 1024 + j.val, by have := lt_of_lt_of_eq k.isLt trips; omega⟩

/-- The element of the updated weight, squared, that the sum over rows adds for row `k` and column `n`. -/
def sq {C : ℕ} (w : Fin 16384 → Fin C → EReal) (s : Fin C → EReal) (a : Fin 16384 → Fin 48 → EReal) (b : Fin 48 → Fin C → EReal)
    (n : Fin C) (k : Fin 16384) : EReal :=
  (w k n * s n + ∑ q, a k q * b q n) * (w k n * s n + ∑ q, a k q * b q n)

theorem ld_a (a : Vec Ideal S16384x48 .bf16) (k : Fin k1_t1_loop.trips) (j : Fin 1024) (q : Fin 48) :
    View.ld a (Rect.unit (s := S16384x48) (k1_off1 k) ![1024, 48] (k1_off1_inb k)) (ix2 j q) = a (ix2 (row k j) q) := by
  refine View.ld_unit_apply_of a _ _ _ _ _ fun d => ?_
  have h := congrFun (k1_off1_eq k) d
  fin_cases d
  · have h' : k1_off1 k 0 = 1024 * k.val := h
    show k.val * 1024 + j.val = k1_off1 k 0 + j.val
    omega
  · have h' : k1_off1 k 1 = 0 := h
    show q.val = k1_off1 k 1 + q.val
    omega

theorem ld_w (w : Vec Ideal S16384x512 .fp8e4m3) (k : Fin k1_t1_loop.trips) (j : Fin 1024) (n : Fin 512) :
    View.ld w (Rect.unit (s := S16384x512) (k1_off2 k) ![1024, 512] (k1_off2_inb k)) (ix2 j n) = w (ix2 (row k j) n) := by
  refine View.ld_unit_apply_of w _ _ _ _ _ fun d => ?_
  have h := congrFun (k1_off2_eq k) d
  fin_cases d
  · have h' : k1_off2 k 0 = 1024 * k.val := h
    show k.val * 1024 + j.val = k1_off2 k 0 + j.val
    omega
  · have h' : k1_off2 k 1 = 0 := h
    show n.val = k1_off2 k 1 + n.val
    omega

/-- The trip's payload over two blocks that are the rows of trip `k`. -/
theorem pay_at (s : Vec Ideal S1x512 .f32) (b : Vec Ideal S48x512 .bf16) (acc : FVec Ideal S1x512 .f32)
    (a' : Vec Ideal S1024x48 .bf16) (w' : Vec Ideal S1024x512 .fp8e4m3) (w : Vec Ideal S16384x512 .fp8e4m3)
    (a : Vec Ideal S16384x48 .bf16) (k : Fin k1_t1_loop.trips) (n : Fin 512)
    (ha : ∀ (j : Fin 1024) (q : Fin 48), a' (ix2 j q) = a (ix2 (row k j) q))
    (hw : ∀ (j : Fin 1024) (n : Fin 512), w' (ix2 j n) = w (ix2 (row k j) n)) :
    k1_pay2 s b acc a' w' (ix2 0 n)
      = acc (ix2 0 n) + ∑ j, sq (fun k n => w (ix2 k n)) (fun n => s (ix2 0 n)) (fun k q => a (ix2 k q)) (fun q n => b (ix2 q n))
          n (row k j) := by
  rw [k1_pay2_at]
  simp only [ha, hw]
  rfl

/-- One trip adds the squares of its 1024 rows. -/
theorem trip_at (𝒱 : Variants) (c : Dev nD) (bd : Option 𝒱.V) (i : grid1.Coords)
    (arg1 : Memref sig .tc .vmem S16384x512 .fp8e4m3) (harg1 : arg1.IsWhole)
    (arg2 : Memref sig .tc .vmem S1x512 .f32) (harg2 : arg2.IsWhole)
    (arg3 : Memref sig .tc .vmem S16384x48 .bf16) (harg3 : arg3.IsWhole)
    (arg4 : Memref sig .tc .vmem S48x512 .bf16) (harg4 : arg4.IsWhole)
    (arg5 : Memref sig .tc .vmem S1x512 .f32) (harg5 : arg5.IsWhole)
    (s : Vec Ideal S1x512 .f32) (b : Vec Ideal S48x512 .bf16)
    (w : Vec Ideal S16384x512 .fp8e4m3) (a : Vec Ideal S16384x48 .bf16)
    (k : Fin k1_t1_loop.trips) (acc : FVec Ideal S1x512 .f32) (n : Fin 512) :
    (tripR_k1_t1 (F := Ideal) 𝒱 c bd i arg1 harg1 arg2 harg2 arg3 harg3 arg4 harg4 arg5 harg5 s b (harg1.unread w) (harg3.unread a) k acc
        : FVec Ideal S1x512 .f32) (ix2 0 n)
      = acc (ix2 0 n) + ∑ j, sq (fun k n => w (ix2 k n)) (fun n => s (ix2 0 n)) (fun k q => a (ix2 k q)) (fun q n => b (ix2 q n))
          n (row k j) := by
  unfold tripR_k1_t1 trip_k1_t1
  dsimp only
  rw [View.readAt_eq_ld, View.readAt_eq_ld, harg1.read_unread, harg3.read_unread]
  exact pay_at s b acc _ _ w a k n (fun j q => ld_a a k j q) fun j n => ld_w w k j n

/-- A sequence that starts at zero and adds `F k` at step `k` ends at the sum. -/
theorem acc_sum (st : ℕ → EReal) (h0 : st 0 = 0) : ∀ (N : ℕ) (F : Fin N → EReal),
    (∀ k : Fin N, st (k.val + 1) = st k.val + F k) → st N = ∑ k, F k
  | 0, _, _ => by simp [h0]
  | N + 1, F, h => by
    rw [Fin.sum_univ_castSucc, ← acc_sum st h0 N (fun k => F k.castSucc) fun k => h k.castSucc]
    exact h (Fin.last N)

theorem trips' : Scf.trips (0#32) (Scalar.addi 0#32 16#32) 1#32 = k1_t1_loop.trips := by decide

/-- The block the point leaves: at each of its 512 columns, the norm. -/
theorem out_A (c : Dev nD) (i : grid1.Coords)
    (arg1 : Memref sig .tc .vmem S16384x512 .fp8e4m3) (harg1 : arg1.IsWhole)
    (arg2 : Memref sig .tc .vmem S1x512 .f32) (harg2 : arg2.IsWhole)
    (arg3 : Memref sig .tc .vmem S16384x48 .bf16) (harg3 : arg3.IsWhole)
    (arg4 : Memref sig .tc .vmem S48x512 .bf16) (harg4 : arg4.IsWhole)
    (arg5 : Memref sig .tc .vmem S1x512 .f32) (harg5 : arg5.IsWhole)
    (w : Vec Ideal S16384x512 .fp8e4m3) (s : Vec Ideal S1x512 .f32) (a : Vec Ideal S16384x48 .bf16)
    (b : Vec Ideal S48x512 .bf16) (n : Fin 512) :
    out1_A_4 c i arg1 harg1 arg2 harg2 arg3 harg3 arg4 harg4 arg5 harg5 w s a b (ix2 0 n)
      = colNorm (fun k => w (ix2 k n)) (s (ix2 0 n)) (fun k q => a (ix2 k q)) (fun q => b (ix2 q n)) := by
  unfold out1_A_4
  rw [View.read_writes_eq_canon _ _ _ (cover1_A_4 c i arg1 harg1 arg2 harg2 arg3 harg3 arg4 harg4 arg5 harg5 w s a b)]
  unfold kernelRun1_A
  dsimp only
  sl_unfold_words
  rw [View.canon_unit_zero (S := S1x512) hz]
  simp only [View.readAt_eq_ld, harg2.read_unread, harg4.read_unread, View.ld_unit_zero (S := S1x512) hz, View.ld_unit_zero (S := S48x512) hz]
  rw [k1_pay3_at, trips']
  refine congrArg Ideal.sqrt ?_
  refine (acc_sum (fun m => (st_k1_t1 Variants.none c none i arg1 harg1 arg2 harg2 arg3 harg3 arg4 harg4 arg5 harg5 s b
    (harg1.unread w) (harg3.unread a) k1_pay1 m : FVec Ideal S1x512 .f32) (ix2 0 n)) (k1_pay1_at n) _
    (fun k => ∑ j, sq (fun k n => w (ix2 k n)) (fun n => s (ix2 0 n)) (fun k q => a (ix2 k q)) (fun q n => b (ix2 q n))
          n (row k j)) fun k => ?_).trans ?_
  · show (st_k1_t1 Variants.none c none i arg1 harg1 arg2 harg2 arg3 harg3 arg4 harg4 arg5 harg5 s b
      (harg1.unread w) (harg3.unread a) k1_pay1 (k.val + 1) : FVec Ideal S1x512 .f32) (ix2 0 n) = _
    rw [st_k1_t1_succ]
    exact trip_at _ _ _ _ _ _ _ _ _ _ _ _ _ _ _ _ _ _ _ _ _
  · exact Fin.sum_mul_add_congr (fun k j hl => rfl) (by rw [trips])

/-! ## The array -/

/-- The column that column `n` of point `t` is. -/
def col (t : Fin cfg1.N) (n : Fin 512) : Fin 5120 := ⟨t.val * 512 + n.val, by have := (idx t).1; omega⟩

/-- The arrays the call reads, as it finds them. -/
abbrev Wt (c : Dev nD) : FVec Ideal S16384x5120 .fp8e4m3 := V c main_arg1
abbrev Sc (c : Dev nD) : FVec Ideal S1x5120 .f32 := V c main_v1
abbrev A (c : Dev nD) : FVec Ideal S16384x48 .bf16 := V c main_arg3
abbrev B (c : Dev nD) : FVec Ideal S48x5120 .bf16 := V c main_arg4

theorem w_at (c : Dev nD) (t : Fin cfg1.N) (k : Fin 16384) (n : Fin 512) :
    (iblk1 V c 0 t : FVec Ideal S16384x512 .fp8e4m3) (ix2 k n) = Wt V c (ix2 k (col t n)) := by
  blk_ext [iblk1, idx t, col]

theorem s_at (c : Dev nD) (t : Fin cfg1.N) (n : Fin 512) :
    (iblk1 V c 1 t : FVec Ideal S1x512 .f32) (ix2 0 n) = Sc V c (ix2 0 (col t n)) := by
  blk_ext [iblk1, idx t, col]

theorem a_at (c : Dev nD) (t : Fin cfg1.N) (k : Fin 16384) (q : Fin 48) :
    (iblk1 V c 2 t : FVec Ideal S16384x48 .bf16) (ix2 k q) = A V c (ix2 k q) := by
  blk_ext [iblk1, idx t]

theorem b_at (c : Dev nD) (t : Fin cfg1.N) (q : Fin 48) (n : Fin 512) :
    (iblk1 V c 3 t : FVec Ideal S48x512 .bf16) (ix2 q n) = B V c (ix2 q (col t n)) := by
  blk_ext [iblk1, idx t, col]

theorem emb4 (t : Fin cfg1.N) (n : Fin 512) :
    ((cfg1.win 4).blk t).view.emb (ix2 0 n : S1x512.Idx) = (ix2 0 (col t n) : S1x5120.Idx) := by
  blk_ext [idx t, col]

/-- The norms as a function of the arrays. -/
def norms (w : FVec Ideal S16384x5120 .fp8e4m3) (s : FVec Ideal S1x5120 .f32) (a : FVec Ideal S16384x48 .bf16)
    (b : FVec Ideal S48x5120 .bf16) : FVec Ideal S1x5120 .f32 :=
  fun i => colNorm (fun k => w (ix2 k (i 1))) (s (ix2 0 (i 1))) (fun k q => a (ix2 k q)) (fun q => b (ix2 q (i 1)))

theorem norms_pt (c : Dev nD) (t : Fin cfg1.N) (n : Fin 512) :
    outsAt1 V c t (ix2 0 n) = norms (Wt V c) (Sc V c) (A V c) (B V c) (ix2 0 (col t n)) := by
  unfold outsAt1
  rw [out_A]
  simp only [w_at, s_at, a_at, b_at]
  rfl

/-- The norms' array after the call. -/
theorem final_norms (c : Dev nD) : (dat1 V c).arrAt 4 cfg1.N = norms (Wt V c) (Sc V c) (A V c) (B V c) := by
  refine (dat1 V c).arrAt_eq_of_covers 4 _ (by decide +kernel) fun t hf y => ?_
  blk_simp
  rw [after1_4]
  obtain ⟨n, rfl⟩ : ∃ n, y = (ix2 0 n : S1x512.Idx) := ⟨y 1, by
    refine (eq_ix2 y).trans (congrArg (fun z => (ix2 z (y 1) : S1x512.Idx)) (Subsingleton.elim (α := Fin 1) _ _))⟩
  exact (norms_pt V c t n).trans (congrArg _ (emb4 t n).symm)

end Cert.KernelIdeal.Norm

end
-- ==== Proof.KMatmul.lean ====
/-
  THE THIRD CALL'S ARRAY. A grid of 4 by 10 points, each over 1024 tokens and 512 columns. After the call the array holds the
  output of every token and column.
-/
module

public import proofs.«01_k».proof.Proof.Gen.KernelIdeal.Frame
public import proofs.«01_k».proof.Proof.KPay

@[expose] public section

set_option maxRecDepth 16384

noncomputable section

namespace Cert.KernelIdeal.Out

open Cert.KernelIdeal Cert.KernelIdeal.Gen Cert.KernelIdeal.Val
open Idealize.ShloMosaic Idealize.ShloMosaic.TcCoe Idealize.SL.Sem
open Idealize.ShloMosaic.Pipeline (Dat)
open Cert.Proof.Spec

variable (V : (c : Dev nD) → (b : Ref sig .tc) → Buf (Elt Ideal) ((c : Thread nD τ).loc b))

theorem hz : (![0, 0] : Fin 2 → Nat) = fun _ => 0 := funext fun a => by fin_cases a <;> rfl

theorem idx : ∀ t : Fin cfg2.N, t.val < 40 ∧ win2_0.index t = ![t.val / 10, 0] ∧ win2_1.index t = ![0, t.val % 10]
    ∧ win2_2.index t = ![t.val / 10, 0] ∧ win2_3.index t = ![0, t.val % 10] ∧ win2_4.index t = ![t.val / 10, 0]
    ∧ win2_5.index t = ![0, t.val % 10] ∧ win2_6.index t = ![0, t.val % 10] ∧ win2_7.index t = ![0, t.val % 10]
    ∧ win2_8.index t = ![t.val / 10, t.val % 10] :=
  (by decide +kernel : ∀ t : Fin grid2.N, _)

/-- The token that row `r` of point `t` is, and the column that its column `n` is. -/
def tok (t : Fin cfg2.N) (r : Fin 1024) : Fin 4096 := ⟨t.val / 10 * 1024 + r.val, by have := (idx t).1; omega⟩
def col (t : Fin cfg2.N) (n : Fin 512) : Fin 5120 := ⟨t.val % 10 * 512 + n.val, by omega⟩

/-- The arrays the call reads, as it finds them. -/
abbrev Xc (c : Dev nD) : FVec Ideal S4096x16384 .fp8e4m3 := V c main_v3_0
abbrev Wt (c : Dev nD) : FVec Ideal S16384x5120 .fp8e4m3 := V c main_arg1
abbrev Xs (c : Dev nD) : FVec Ideal S4096x128 .f32 := V c main_v3_1
abbrev Sc (c : Dev nD) : FVec Ideal S1x5120 .f32 := V c main_v1
abbrev Lo (c : Dev nD) : FVec Ideal S4096x48 .bf16 := V c main_v3_2
abbrev B (c : Dev nD) : FVec Ideal S48x5120 .bf16 := V c main_arg4
abbrev Mg (c : Dev nD) : FVec Ideal S1x5120 .f32 := V c main_v2
abbrev Nm (c : Dev nD) : FVec Ideal S1x5120 .f32 := V c main_v4

theorem xc_at (c : Dev nD) (t : Fin cfg2.N) (r : Fin 1024) (k : Fin 16384) :
    (iblk2 V c 0 t : FVec Ideal S1024x16384 .fp8e4m3) (ix2 r k) = Xc V c (ix2 (tok t r) k) := by
  blk_ext [iblk2, idx t, tok]

theorem w_at (c : Dev nD) (t : Fin cfg2.N) (k : Fin 16384) (n : Fin 512) :
    (iblk2 V c 1 t : FVec Ideal S16384x512 .fp8e4m3) (ix2 k n) = Wt V c (ix2 k (col t n)) := by
  blk_ext [iblk2, idx t, col]

theorem xs_at (c : Dev nD) (t : Fin cfg2.N) (r : Fin 1024) (l : Fin 128) :
    (iblk2 V c 2 t : FVec Ideal S1024x128 .f32) (ix2 r l) = Xs V c (ix2 (tok t r) l) := by
  blk_ext [iblk2, idx t, tok]

theorem s_at (c : Dev nD) (t : Fin cfg2.N) (n : Fin 512) :
    (iblk2 V c 3 t : FVec Ideal S1x512 .f32) (ix2 0 n) = Sc V c (ix2 0 (col t n)) := by
  blk_ext [iblk2, idx t, col]

theorem lo_at (c : Dev nD) (t : Fin cfg2.N) (r : Fin 1024) (q : Fin 48) :
    (iblk2 V c 4 t : FVec Ideal S1024x48 .bf16) (ix2 r q) = Lo V c (ix2 (tok t r) q) := by
  blk_ext [iblk2, idx t, tok]

theorem b_at (c : Dev nD) (t : Fin cfg2.N) (q : Fin 48) (n : Fin 512) :
    (iblk2 V c 5 t : FVec Ideal S48x512 .bf16) (ix2 q n) = B V c (ix2 q (col t n)) := by
  blk_ext [iblk2, idx t, col]

theorem mg_at (c : Dev nD) (t : Fin cfg2.N) (n : Fin 512) :
    (iblk2 V c 6 t : FVec Ideal S1x512 .f32) (ix2 0 n) = Mg V c (ix2 0 (col t n)) := by
  blk_ext [iblk2, idx t, col]

theorem nm_at (c : Dev nD) (t : Fin cfg2.N) (n : Fin 512) :
    (iblk2 V c 7 t : FVec Ideal S1x512 .f32) (ix2 0 n) = Nm V c (ix2 0 (col t n)) := by
  blk_ext [iblk2, idx t, col]

theorem emb8 (t : Fin cfg2.N) (r : Fin 1024) (n : Fin 512) :
    ((cfg2.win 8).blk t).view.emb (ix2 r n : S1024x512.Idx) = (ix2 (tok t r) (col t n) : S4096x5120.Idx) := by
  blk_ext [idx t, tok, col]

/-- The output as a function of the arrays. -/
def outs (xc : FVec Ideal S4096x16384 .fp8e4m3) (w : FVec Ideal S16384x5120 .fp8e4m3) (xs : FVec Ideal S4096x128 .f32)
    (s : FVec Ideal S1x5120 .f32) (t : FVec Ideal S4096x48 .bf16) (b : FVec Ideal S48x5120 .bf16) (g nrm : FVec Ideal S1x5120 .f32) :
    FVec Ideal S4096x5120 .bf16 :=
  fun i => outAt (fun k => xc (ix2 (i 0) k)) (xs (ix2 (i 0) 0)) (fun q => t (ix2 (i 0) q)) (fun k => w (ix2 k (i 1))) (s (ix2 0 (i 1)))
    (fun q => b (ix2 q (i 1))) (g (ix2 0 (i 1))) (nrm (ix2 0 (i 1)))

/-- The scale of a row is loaded from the first of its 128 copies. -/
theorem ld_xs (x : Vec Ideal S1024x128 .f32) (r : Fin 1024) :
    (View.ld x r2_5 : Vec Ideal S1024x1 .f32) (ix2 r 0) = x (ix2 r 0) := by
  refine View.ld_unit_apply_of x _ _ _ _ _ fun d => ?_
  fin_cases d
  · show r.val = 0 + r.val; omega
  · rfl

/-- What the body leaves, at row `r` and column `n`. -/
theorem out_at (x0 : Vec Ideal S1024x16384 .fp8e4m3) (x1 : Vec Ideal S16384x512 .fp8e4m3) (x2 : Vec Ideal S1024x128 .f32)
    (x3 : Vec Ideal S1x512 .f32) (x4 : Vec Ideal S1024x48 .bf16) (x5 : Vec Ideal S48x512 .bf16) (x6 x7 : Vec Ideal S1x512 .f32)
    (r : Fin 1024) (n : Fin 512) :
    out2_8 x0 x1 x2 x3 x4 x5 x6 x7 (ix2 r n)
      = outAt (fun k => x0 (ix2 r k)) (x2 (ix2 r 0)) (fun q => x4 (ix2 r q)) (fun k => x1 (ix2 k n)) (x3 (ix2 0 n))
          (fun q => x5 (ix2 q n)) (x6 (ix2 0 n)) (x7 (ix2 0 n)) := by
  unfold out2_8
  rw [View.canon_unit_zero (S := S1024x512) hz, View.ld_unit_zero (S := S1024x16384) hz, View.ld_unit_zero (S := S16384x512) hz,
    View.ld_unit_zero (S := S1024x48) hz, View.ld_unit_zero (S := S48x512) hz, View.ld_unit_zero (S := S1x512) hz,
    View.ld_unit_zero (S := S1x512) hz, View.ld_unit_zero (S := S1x512) hz, k2_pay1_at, ld_xs]

theorem outs_pt (c : Dev nD) (t : Fin cfg2.N) (r : Fin 1024) (n : Fin 512) :
    out2_8 (iblk2 V c 0 t) (iblk2 V c 1 t) (iblk2 V c 2 t) (iblk2 V c 3 t) (iblk2 V c 4 t) (iblk2 V c 5 t) (iblk2 V c 6 t)
        (iblk2 V c 7 t) (ix2 r n)
      = outs (Xc V c) (Wt V c) (Xs V c) (Sc V c) (Lo V c) (B V c) (Mg V c) (Nm V c) (ix2 (tok t r) (col t n)) := by
  rw [out_at]
  simp only [xc_at, w_at, xs_at, s_at, lo_at, b_at, mg_at, nm_at]
  rfl

/-- The output's array after the call. -/
theorem final_outs (c : Dev nD) :
    (dat2 V c).arrAt 8 cfg2.N = outs (Xc V c) (Wt V c) (Xs V c) (Sc V c) (Lo V c) (B V c) (Mg V c) (Nm V c) := by
  refine (dat2 V c).arrAt_eq_of_covers 8 _ (by decide +kernel) fun t hf y => ?_
  blk_simp
  rw [after2_8]
  obtain ⟨r, n, rfl⟩ : ∃ r n, y = (ix2 r n : S1024x512.Idx) := ⟨y 0, y 1, eq_ix2 y⟩
  exact (outs_pt V c t r n).trans (congrArg _ (emb8 t r n).symm)

end Cert.KernelIdeal.Out

end
-- ==== Proof.KVal.lean ====
/-
  THE KERNEL'S FOUR RESULTS AS FUNCTIONS OF ITS ARGUMENTS: the three calls' arrays put through the reshapes before, between
  and after them.
-/
module

public import proofs.«01_k».proof.Proof.KQuant
public import proofs.«01_k».proof.Proof.KNorm
public import proofs.«01_k».proof.Proof.KMatmul

@[expose] public section

set_option maxRecDepth 16384

noncomputable section

namespace Cert.KernelIdeal.Results

open Cert.KernelIdeal Cert.KernelIdeal.Gen
open Idealize.ShloMosaic Idealize.ShloMosaic.TcCoe Idealize.ShloMosaic.Tactic Idealize.SL.Sem
open Cert.Proof.Spec Cert.Proof.Pow2

variable (m : (ℓ : Loc nD τ sig) → Buf (Elt Ideal) ℓ) (ρ : Dev nD → PrngReg) (c : Dev nD)

/-- The arguments, the first, third and sixth as the host reshapes them. -/
abbrev X : FVec Ideal S4096x16384 .bf16 :=
  shapeCast S4096x16384 (m ((c : Thread nD τ).loc main_arg0)) shapeCasts_S2x2048x16384_S4096x16384
abbrev Wt : FVec Ideal S16384x5120 .fp8e4m3 := m ((c : Thread nD τ).loc main_arg1)
abbrev Sc : FVec Ideal S1x5120 .f32 := shapeCast S1x5120 (m ((c : Thread nD τ).loc main_arg2)) shapeCasts_S5120_S1x5120
abbrev A : FVec Ideal S16384x48 .bf16 := m ((c : Thread nD τ).loc main_arg3)
abbrev B : FVec Ideal S48x5120 .bf16 := m ((c : Thread nD τ).loc main_arg4)
abbrev Mg : FVec Ideal S1x5120 .f32 := shapeCast S1x5120 (m ((c : Thread nD τ).loc main_arg5)) shapeCasts_S5120_S1x5120

/-! ## The host's arrays, as each call finds them -/

theorem W1_v0 : W1 m ρ c (Proc.devRef .tc main_v0) = X m c := by
  unfold W1; after_results; rfl
theorem W1_v1 : W1 m ρ c (Proc.devRef .tc main_v1) = Sc m c := by
  unfold W1; after_results; rfl
theorem W1_v2 : W1 m ρ c (Proc.devRef .tc main_v2) = Mg m c := by
  unfold W1; after_results; rfl

theorem V1_v0 : V1 m ρ c main_v0 = X m c := W1_v0 m ρ c
theorem V1_arg3 : V1 m ρ c main_arg3 = A m c := W1_args m ρ c main_arg3 (by decide)

theorem V2_v1 : V2 m ρ c main_v1 = Sc m c := (W2_of m ρ c main_v1 (by decide)).trans (W1_v1 m ρ c)
theorem V2_v2 : V2 m ρ c main_v2 = Mg m c := (W2_of m ρ c main_v2 (by decide)).trans (W1_v2 m ρ c)
theorem V2_arg1 : V2 m ρ c main_arg1 = Wt m c := W2_args m ρ c main_arg1 (by decide)
theorem V2_arg3 : V2 m ρ c main_arg3 = A m c := W2_args m ρ c main_arg3 (by decide)
theorem V2_arg4 : V2 m ρ c main_arg4 = B m c := W2_args m ρ c main_arg4 (by decide)

variable (hG : ∀ (c : Dev nD) (r : Fin 4096), Good (amax fun k => X m c (ix2 r k)))

include hG in
theorem hG1 (c : Dev nD) (r : Fin 4096) : Good (amax fun k => Quant.X (V1 m ρ) c (ix2 r k)) := by
  unfold Quant.X; rw [V1_v0]; exact hG c r

include hG in
theorem W2_codes : W2 m ρ c (Proc.devRef .tc main_v3_0) = Quant.codes (X m c) :=
  (W2_arr m ρ c 2).trans ((Quant.final_codes (V1 m ρ) (hG1 m ρ hG) c).trans (congrArg Quant.codes (V1_v0 m ρ c)))
include hG in
theorem W2_scales : W2 m ρ c (Proc.devRef .tc main_v3_1) = Quant.scales (X m c) :=
  (W2_arr m ρ c 3).trans ((Quant.final_scales (V1 m ρ) (hG1 m ρ hG) c).trans (congrArg Quant.scales (V1_v0 m ρ c)))
theorem W2_low : W2 m ρ c (Proc.devRef .tc main_v3_2) = Quant.low (X m c) (A m c) :=
  (W2_arr m ρ c 4).trans ((Quant.final_low (V1 m ρ) c).trans (congrArg₂ Quant.low (V1_v0 m ρ c) (V1_arg3 m ρ c)))

theorem norms_congr {w w' : FVec Ideal S16384x5120 .fp8e4m3} {s s' : FVec Ideal S1x5120 .f32} {a a' : FVec Ideal S16384x48 .bf16}
    {b b' : FVec Ideal S48x5120 .bf16} (hw : w = w') (hs : s = s') (ha : a = a') (hb : b = b') :
    Norm.norms w s a b = Norm.norms w' s' a' b' := by rw [hw, hs, ha, hb]

theorem outs_congr {xc xc' : FVec Ideal S4096x16384 .fp8e4m3} {w w' : FVec Ideal S16384x5120 .fp8e4m3}
    {xs xs' : FVec Ideal S4096x128 .f32} {s s' : FVec Ideal S1x5120 .f32} {t t' : FVec Ideal S4096x48 .bf16}
    {b b' : FVec Ideal S48x5120 .bf16} {g g' n n' : FVec Ideal S1x5120 .f32} (h0 : xc = xc') (h1 : w = w') (h2 : xs = xs')
    (h3 : s = s') (h4 : t = t') (h5 : b = b') (h6 : g = g') (h7 : n = n') :
    Out.outs xc w xs s t b g n = Out.outs xc' w' xs' s' t' b' g' n' := by rw [h0, h1, h2, h3, h4, h5, h6, h7]

/-- The norms' array, between the second call and the third. -/
abbrev N : FVec Ideal S1x5120 .f32 := Norm.norms (Wt m c) (Sc m c) (A m c) (B m c)

theorem W3_norms : W3 m ρ c (Proc.devRef .tc main_v4) = N m c :=
  (W3_arr m ρ c 4).trans ((Norm.final_norms (V2 m ρ) c).trans
    (norms_congr (V2_arg1 m ρ c) (V2_v1 m ρ c) (V2_arg3 m ρ c) (V2_arg4 m ρ c)))

include hG in
theorem W3_codes : W3 m ρ c (Proc.devRef .tc main_v3_0) = Quant.codes (X m c) :=
  (W3_of m ρ c main_v3_0 (by decide)).trans (W2_codes m ρ c hG)
include hG in
theorem W3_scales : W3 m ρ c (Proc.devRef .tc main_v3_1) = Quant.scales (X m c) :=
  (W3_of m ρ c main_v3_1 (by decide)).trans (W2_scales m ρ c hG)
theorem W3_low : W3 m ρ c (Proc.devRef .tc main_v3_2) = Quant.low (X m c) (A m c) :=
  (W3_of m ρ c main_v3_2 (by decide)).trans (W2_low m ρ c)
theorem W3_v1 : W3 m ρ c (Proc.devRef .tc main_v1) = Sc m c := (W3_of m ρ c main_v1 (by decide)).trans (V2_v1 m ρ c)
theorem W3_v2 : W3 m ρ c (Proc.devRef .tc main_v2) = Mg m c := (W3_of m ρ c main_v2 (by decide)).trans (V2_v2 m ρ c)

/-- The output's array, after the third call. -/
abbrev O : FVec Ideal S4096x5120 .bf16 :=
  Out.outs (Quant.codes (X m c)) (Wt m c) (Quant.scales (X m c)) (Sc m c) (Quant.low (X m c) (A m c)) (B m c) (Mg m c) (N m c)

include hG in
theorem W4_outs : W4 m ρ c (Proc.devRef .tc main_v5) = O m c :=
  (W4_arr m ρ c 8).trans ((Out.final_outs (V3 m ρ) c).trans
    (outs_congr (W3_codes m ρ c hG) (W3_args m ρ c main_arg1 (by decide)) (W3_scales m ρ c hG) (W3_v1 m ρ c) (W3_low m ρ c)
      (W3_args m ρ c main_arg4 (by decide)) (W3_v2 m ρ c) (W3_norms m ρ c)))
theorem W4_norms : W4 m ρ c (Proc.devRef .tc main_v4) = N m c :=
  (W4_of m ρ c main_v4 (by decide)).trans (W3_norms m ρ c)
include hG in
theorem W4_codes : W4 m ρ c (Proc.devRef .tc main_v3_0) = Quant.codes (X m c) :=
  (W4_of m ρ c main_v3_0 (by decide)).trans (W3_codes m ρ c hG)
include hG in
theorem W4_scales : W4 m ρ c (Proc.devRef .tc main_v3_1) = Quant.scales (X m c) :=
  (W4_of m ρ c main_v3_1 (by decide)).trans (W3_scales m ρ c hG)

/-! ## The four results -/

theorem read_v6 : W5 m ρ c (Proc.devRef .tc main_v6)
    = shapeCast S2x2048x5120 (W4 m ρ c (Proc.devRef .tc main_v5)) shapeCasts_S4096x5120_S2x2048x5120 := by
  unfold W5; after_results; rfl
theorem read_v7 : W5 m ρ c (Proc.devRef .tc main_v7)
    = shapeCast S5120 (W4 m ρ c (Proc.devRef .tc main_v4)) shapeCasts_S1x5120_S5120 := by
  unfold W5; after_results; rfl
theorem read_v8 : W5 m ρ c (Proc.devRef .tc main_v8)
    = shapeCast S2x2048x16384 (W4 m ρ c (Proc.devRef .tc main_v3_0)) shapeCasts_S4096x16384_S2x2048x16384 := by
  unfold W5; after_results; rfl
theorem read_v11 : W5 m ρ c (Proc.devRef .tc main_v11)
    = shapeCast S2x2048 (shapeCast S4096 (extractStridedSlice S4096x1 ![0, 0] (W4 m ρ c (Proc.devRef .tc main_v3_1))
        slices_S4096x128_S4096x1_0_0) shapeCasts_S4096x1_S4096) shapeCasts_S4096_S2x2048 := by
  unfold W5; after_results; rfl

end Cert.KernelIdeal.Results

end
-- ==== Proof.RefPay.lean ====
/-
  THE REFERENCE'S FOUR RESULTS AT AN INDEX. The reference is one kernel over whole arrays; each result it stores is read here
  as the extended real it holds at one place: the quantiser's exponent and scale of a token, a code, a column norm, and an
  element of the output.
-/
module

public import proofs.«01_k».proof.Proof.Gen.ReferenceIdeal.Skeleton
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Val

open Cert.ReferenceIdeal Cert.ReferenceIdeal.Gen
open Idealize.ShloMosaic Cert.Proof.Spec Cert.Proof.Pow2

theorem pay3_eq (v : Vec Ideal S4096x16384 .bf16) : k0_pay3 v = v := shapeCast_self _ _

theorem pay6_eq (v : Vec Ideal S4096x16384 .bf16) : k0_pay6 v = v := by
  unfold k0_pay6; rw [pay3_eq]; rfl

/-- The maximum along a row, kept as a column. -/
theorem rowmax (v : FVec Ideal S4096x16384 .f32) (r : Fin 4096) :
    (shapeCast S4096x1 (multiReduction .maximumf [1] S4096 v 0xFF800000#32 reduces_S4096x16384_S4096 (.inl rfl) rfl)
      shapeCasts_S4096_S4096x1) (ix2 r 0) = Finset.fold max ⊥ (fun k => v (ix2 r k)) Finset.univ := by
  pointwise
  rw [neg_inf_f32]

/-- The layer's exponent, out of any column of magnitudes. -/
private theorem expo_at (w : FVec Ideal S4096x1 .f32) (r : Fin 4096) :
    select (cmpf .oeq w (broadcast S4096x1 (Scalar.ofBits .f32 0x00000000#32)))
      (broadcast S4096x1 (Scalar.ofBits .f32 0x00000000#32))
      (addf (floor (divf (log (mulf w (broadcast S4096x1 (Scalar.ofBits .f32 0x3B124925#32))))
        (log (broadcast S4096x1 (Scalar.ofBits .f32 0x40000000#32)))))
        (broadcast S4096x1 (Scalar.ofBits .f32 0x3F800000#32))) (ix2 r 0) = expo (w (ix2 r 0)) := by
  unfold expo c448
  pointwise

/-- The quantiser's exponent of token `r`. -/
theorem pay7_at (x : Vec Ideal S4096x16384 .bf16) (r : Fin 4096) :
    k0_pay7 x (ix2 r 0) = expo (amax fun k => x (ix2 r k)) := by
  unfold k0_pay7
  rw [pay6_eq]
  refine (expo_at _ r).trans ?_
  rw [rowmax]
  rfl

private theorem exp2_at (w : FVec Ideal S4096x1 .f32) (r : Fin 4096) : exp2 w (ix2 r 0) = Ideal.exp2 (w (ix2 r 0)) := by
  pointwise
  rfl

/-- The scale of token `r`. -/
theorem pay8_at (x : Vec Ideal S4096x16384 .bf16) (r : Fin 4096) :
    k0_pay8 x (ix2 r 0) = scale (fun k => x (ix2 r k)) := by
  have h := pay7_at x r
  unfold k0_pay8
  generalize k0_pay7 x = w at h ⊢
  exact (exp2_at w r).trans (congrArg Ideal.exp2 h)

private theorem code_at (x : FVec Ideal S4096x16384 .f32) (w : FVec Ideal S4096x1 .f32) (r : Fin 4096) (k : Fin 16384) :
    minimumf (broadcast S4096x16384 (Scalar.ofBits .f32 0x43E00000#32))
      (maximumf (broadcast S4096x16384 (Scalar.ofBits .f32 0xC3E00000#32))
        (mulf x (broadcastTo S4096x16384 (exp2 (subf (broadcast S4096x1 (Scalar.ofBits .f32 0x00000000#32)) w))
          broadcasts_S4096x1_S4096x16384))) (ix2 r k)
    = min (Ideal.ofBits .f32 1138753536#32)
      (max (Ideal.ofBits .f32 3286237184#32) (x (ix2 r k) * Ideal.exp2 (0 - w (ix2 r 0)))) := by
  pointwise
  rfl

/-- The code of element `k` of token `r`. -/
theorem pay9_at (x : Vec Ideal S4096x16384 .bf16) (r : Fin 4096) (k : Fin 16384) :
    k0_pay9 x (ix2 r k) = code (fun k => x (ix2 r k)) k := by
  have h := pay7_at x r
  unfold k0_pay9 code
  rw [pay6_eq]
  generalize k0_pay7 x = w at h ⊢
  rw [← h]
  exact code_at x w r k

/-- The product of the two low-rank factors. -/
theorem pay10_at (a : Vec Ideal S16384x48 .bf16) (b : Vec Ideal S48x5120 .bf16) (k : Fin 16384) (n : Fin 5120) :
    k0_pay10 a b (ix2 k n) = ∑ q, a (ix2 k q) * b (ix2 q n) := by
  unfold k0_pay10
  pointwise

theorem pay1_at (w : Vec Ideal S16384x5120 .fp8e4m3) (s : FVec Ideal S1x5120 .f32) (v : FVec Ideal S16384x5120 .f32)
    (n : Fin 5120) : k0_pay1 w s v (ix2 0 n)
      = Ideal.sqrt (∑ k, (w (ix2 k n) * s (ix2 0 n) + v (ix2 k n)) * (w (ix2 k n) * s (ix2 0 n) + v (ix2 k n))) := by
  unfold k0_pay1
  pointwise

/-- The norm of column `n`. -/
theorem norm_at (w : Vec Ideal S16384x5120 .fp8e4m3) (s : FVec Ideal S1x5120 .f32) (a : Vec Ideal S16384x48 .bf16)
    (b : Vec Ideal S48x5120 .bf16) (n : Fin 5120) :
    k0_pay1 w s (k0_pay10 a b) (ix2 0 n)
      = colNorm (fun k => w (ix2 k n)) (s (ix2 0 n)) (fun k q => a (ix2 k q)) (fun q => b (ix2 q n)) := by
  rw [pay1_at]
  simp only [pay10_at]
  rfl

/-- The output at row `r` and column `n`. -/
theorem pay2_at (x : Vec Ideal S4096x16384 .bf16) (w : Vec Ideal S16384x5120 .fp8e4m3) (s : FVec Ideal S1x5120 .f32)
    (a : Vec Ideal S16384x48 .bf16) (b : Vec Ideal S48x5120 .bf16) (g : FVec Ideal S1x5120 .f32)
    (xs : FVec Ideal S4096x1 .f32) (xc : FVec Ideal S4096x16384 .fp8e4m3) (v : FVec Ideal S16384x5120 .f32)
    (r : Fin 4096) (n : Fin 5120) :
    k0_pay2 x w s a b g xs xc v (ix2 r n)
      = outAt (fun k => xc (ix2 r k)) (xs (ix2 r 0)) (fun q => ∑ k, x (ix2 r k) * a (ix2 k q)) (fun k => w (ix2 k n))
          (s (ix2 0 n)) (fun q => b (ix2 q n)) (g (ix2 0 n)) (k0_pay1 w s v (ix2 0 n)) := by
  unfold k0_pay2 outAt
  generalize k0_pay1 w s v = c
  pointwise

end Cert.ReferenceIdeal.Val

end
-- ==== Proof.RefVal.lean ====
/-
  THE REFERENCE'S FOUR RESULTS AS FUNCTIONS OF ITS ARGUMENTS: its one call over whole arrays, put through the reshapes before
  and after it.
-/
module

public import proofs.«01_k».proof.Proof.Gen.ReferenceIdeal.Frame
public import proofs.«01_k».proof.Proof.RefPay

@[expose] public section

set_option maxRecDepth 16384

noncomputable section

namespace Cert.ReferenceIdeal.Results

open Cert.ReferenceIdeal Cert.ReferenceIdeal.Gen Cert.ReferenceIdeal.Val
open Idealize.ShloMosaic Idealize.ShloMosaic.TcCoe Idealize.ShloMosaic.Tactic Idealize.SL.Sem
open Cert.Proof.Spec

theorem hz : (![0, 0] : Fin 2 → Nat) = fun _ => 0 := funext fun a => by fin_cases a <;> rfl

/-! ## What the body leaves, from whole arrays -/

/-- The four arrays as functions of the arguments. -/
def codes (x : FVec Ideal S4096x16384 .bf16) : FVec Ideal S4096x16384 .fp8e4m3 :=
  fun i => code (fun k => x (ix2 (i 0) k)) (i 1)
def scales (x : FVec Ideal S4096x16384 .bf16) : FVec Ideal S4096x1 .f32 :=
  fun i => scale (fun k => x (ix2 (i 0) k))
def norms (w : FVec Ideal S16384x5120 .fp8e4m3) (s : FVec Ideal S1x5120 .f32) (a : FVec Ideal S16384x48 .bf16)
    (b : FVec Ideal S48x5120 .bf16) : FVec Ideal S1x5120 .f32 :=
  fun i => colNorm (fun k => w (ix2 k (i 1))) (s (ix2 0 (i 1))) (fun k q => a (ix2 k q)) (fun q => b (ix2 q (i 1)))
def outs (x : FVec Ideal S4096x16384 .bf16) (w : FVec Ideal S16384x5120 .fp8e4m3) (s : FVec Ideal S1x5120 .f32)
    (a : FVec Ideal S16384x48 .bf16) (b : FVec Ideal S48x5120 .bf16) (g : FVec Ideal S1x5120 .f32) : FVec Ideal S4096x5120 .bf16 :=
  fun i => outAt (fun k => code (fun k => x (ix2 (i 0) k)) k) (scale fun k => x (ix2 (i 0) k))
    (fun q => ∑ k, x (ix2 (i 0) k) * a (ix2 k q)) (fun k => w (ix2 k (i 1))) (s (ix2 0 (i 1))) (fun q => b (ix2 q (i 1)))
    (g (ix2 0 (i 1))) (colNorm (fun k => w (ix2 k (i 1))) (s (ix2 0 (i 1))) (fun k q => a (ix2 k q)) (fun q => b (ix2 q (i 1))))

variable (x0 : Vec Ideal S4096x16384 .bf16) (x1 : Vec Ideal S16384x5120 .fp8e4m3) (x2 : Vec Ideal S1x5120 .f32)
  (x3 : Vec Ideal S16384x48 .bf16) (x4 : Vec Ideal S48x5120 .bf16) (x5 : Vec Ideal S1x5120 .f32)

theorem pay4_eq (v : Vec Ideal S1x5120 .f32) : k0_pay4 v = v := shapeCast_self _ _
theorem pay5_eq (v : Vec Ideal S1x5120 .f32) : k0_pay5 v = v := shapeCast_self _ _

theorem pay11_eq : k0_pay11 x0 x1 x2 x3 x4 x5 = x2 := by
  unfold k0_pay11; rw [pay4_eq]; exact View.ld_unit_zero (S := S1x5120) hz _ x2
theorem pay12_eq : k0_pay12 x0 x1 x2 x3 x4 x5 = k0_pay8 x0 := by
  unfold k0_pay12; rw [View.ld_unit_zero (S := S4096x16384) hz]
theorem pay13_eq : k0_pay13 x0 x1 x2 x3 x4 x5 = k0_pay9 x0 := by
  unfold k0_pay13; rw [View.ld_unit_zero (S := S4096x16384) hz]
theorem pay14_eq : k0_pay14 x0 x1 x2 x3 x4 x5 = k0_pay10 x3 x4 := by
  unfold k0_pay14; rw [View.ld_unit_zero (S := S16384x48) hz, View.ld_unit_zero (S := S48x5120) hz]

theorem out9_at (r : Fin 4096) : out0_9 x0 x1 x2 x3 x4 x5 (ix2 r 0) = scales x0 (ix2 r 0) := by
  unfold out0_9
  rw [View.canon_unit_zero (S := S4096x1) hz, pay12_eq]
  exact pay8_at x0 r

theorem out8_at (r : Fin 4096) (k : Fin 16384) : out0_8 x0 x1 x2 x3 x4 x5 (ix2 r k) = codes x0 (ix2 r k) := by
  unfold out0_8
  rw [View.canon_unit_zero (S := S4096x16384) hz, pay13_eq]
  exact pay9_at x0 r k

theorem out7_at (n : Fin 5120) : out0_7 x0 x1 x2 x3 x4 x5 (ix2 0 n) = norms x1 x2 x3 x4 (ix2 0 n) := by
  unfold out0_7
  rw [View.canon_unit_zero (S := S1x5120) hz, View.ld_unit_zero (S := S16384x5120) hz, pay11_eq, pay14_eq]
  exact norm_at x1 x2 x3 x4 n

theorem out6_at (r : Fin 4096) (n : Fin 5120) :
    out0_6 x0 x1 x2 x3 x4 x5 (ix2 r n) = outs x0 x1 x2 x3 x4 x5 (ix2 r n) := by
  unfold out0_6
  rw [View.canon_unit_zero (S := S4096x5120) hz, View.ld_unit_zero (S := S16384x5120) hz, View.ld_unit_zero (S := S4096x16384) hz,
    View.ld_unit_zero (S := S16384x48) hz, View.ld_unit_zero (S := S48x5120) hz, View.ld_unit_zero (S := S1x5120) hz,
    pay11_eq, pay12_eq, pay13_eq, pay14_eq, pay3_eq, pay5_eq, pay2_at, norm_at, pay8_at]
  simp only [pay9_at]
  rfl

/-! ## The arrays after the call -/

variable (m : (ℓ : Loc nD τ sig) → Buf (Elt Ideal) ℓ) (ρ : Dev nD → PrngReg) (c : Dev nD)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- Each block is its whole array. -/
theorem blk0 (t : Fin cfg0.N) : (iblk m c 0 t : FVec Ideal S4096x16384 .bf16) = V m c main_v0 := by
  funext y; obtain ⟨r, k, rfl⟩ : ∃ r k, y = (ix2 r k : S4096x16384.Idx) := ⟨y 0, y 1, eq_ix2 y⟩
  blk_ext [iblk, idx t]
theorem blk1 (t : Fin cfg0.N) : (iblk m c 1 t : FVec Ideal S16384x5120 .fp8e4m3) = V m c main_arg1 := by
  funext y; obtain ⟨r, k, rfl⟩ : ∃ r k, y = (ix2 r k : S16384x5120.Idx) := ⟨y 0, y 1, eq_ix2 y⟩
  blk_ext [iblk, idx t]
theorem blk2 (t : Fin cfg0.N) : (iblk m c 2 t : FVec Ideal S1x5120 .f32) = V m c main_v1 := by
  funext y; obtain ⟨r, k, rfl⟩ : ∃ r k, y = (ix2 r k : S1x5120.Idx) := ⟨y 0, y 1, eq_ix2 y⟩
  blk_ext [iblk, idx t]
theorem blk3 (t : Fin cfg0.N) : (iblk m c 3 t : FVec Ideal S16384x48 .bf16) = V m c main_arg3 := by
  funext y; obtain ⟨r, k, rfl⟩ : ∃ r k, y = (ix2 r k : S16384x48.Idx) := ⟨y 0, y 1, eq_ix2 y⟩
  blk_ext [iblk, idx t]
theorem blk4 (t : Fin cfg0.N) : (iblk m c 4 t : FVec Ideal S48x5120 .bf16) = V m c main_arg4 := by
  funext y; obtain ⟨r, k, rfl⟩ : ∃ r k, y = (ix2 r k : S48x5120.Idx) := ⟨y 0, y 1, eq_ix2 y⟩
  blk_ext [iblk, idx t]
theorem blk5 (t : Fin cfg0.N) : (iblk m c 5 t : FVec Ideal S1x5120 .f32) = V m c main_v2 := by
  funext y; obtain ⟨r, k, rfl⟩ : ∃ r k, y = (ix2 r k : S1x5120.Idx) := ⟨y 0, y 1, eq_ix2 y⟩
  blk_ext [iblk, idx t]

/-- The arguments, the first, third and sixth as the host reshapes them. -/
abbrev X : FVec Ideal S4096x16384 .bf16 :=
  shapeCast S4096x16384 (m ((c : Thread nD τ).loc main_arg0)) shapeCasts_S2x2048x16384_S4096x16384
abbrev Wt : FVec Ideal S16384x5120 .fp8e4m3 := m ((c : Thread nD τ).loc main_arg1)
abbrev Sc : FVec Ideal S1x5120 .f32 := shapeCast S1x5120 (m ((c : Thread nD τ).loc main_arg2)) shapeCasts_S5120_S1x5120
abbrev A : FVec Ideal S16384x48 .bf16 := m ((c : Thread nD τ).loc main_arg3)
abbrev B : FVec Ideal S48x5120 .bf16 := m ((c : Thread nD τ).loc main_arg4)
abbrev Mg : FVec Ideal S1x5120 .f32 := shapeCast S1x5120 (m ((c : Thread nD τ).loc main_arg5)) shapeCasts_S5120_S1x5120

theorem V_v0 : V m c main_v0 = X m c := by
  show StableHlo.after hostOps0 (fun b => m (c, b)) (Proc.devRef .tc main_v0) = _
  after_results; rfl
theorem V_v1 : V m c main_v1 = Sc m c := by
  show StableHlo.after hostOps0 (fun b => m (c, b)) (Proc.devRef .tc main_v1) = _
  after_results; rfl
theorem V_v2 : V m c main_v2 = Mg m c := by
  show StableHlo.after hostOps0 (fun b => m (c, b)) (Proc.devRef .tc main_v2) = _
  after_results; rfl

theorem emb6 (t : Fin cfg0.N) (r : Fin 4096) (n : Fin 5120) :
    ((cfg0.win 6).blk t).view.emb (ix2 r n : S4096x5120.Idx) = (ix2 r n : S4096x5120.Idx) := by
  blk_ext [idx t]
theorem emb7 (t : Fin cfg0.N) (n : Fin 5120) :
    ((cfg0.win 7).blk t).view.emb (ix2 0 n : S1x5120.Idx) = (ix2 0 n : S1x5120.Idx) := by
  blk_ext [idx t]
theorem emb8 (t : Fin cfg0.N) (r : Fin 4096) (k : Fin 16384) :
    ((cfg0.win 8).blk t).view.emb (ix2 r k : S4096x16384.Idx) = (ix2 r k : S4096x16384.Idx) := by
  blk_ext [idx t]
theorem emb9 (t : Fin cfg0.N) (r : Fin 4096) :
    ((cfg0.win 9).blk t).view.emb (ix2 r 0 : S4096x1.Idx) = (ix2 r 0 : S4096x1.Idx) := by
  blk_ext [idx t]

theorem final_outs : (dats m 0 c).arrAt 6 cfg0.N = outs (X m c) (Wt m c) (Sc m c) (A m c) (B m c) (Mg m c) := by
  refine (dats m 0 c).arrAt_eq_of_covers 6 _ (by decide +kernel) fun t hf y => ?_
  blk_simp
  rw [after0_6, blk0, blk1, blk2, blk3, blk4, blk5, V_v0, V_v1, V_v2, V_main_arg1, V_main_arg3, V_main_arg4]
  obtain ⟨r, n, rfl⟩ : ∃ r n, y = (ix2 r n : S4096x5120.Idx) := ⟨y 0, y 1, eq_ix2 y⟩
  exact (out6_at (X m c) (Wt m c) (Sc m c) (A m c) (B m c) (Mg m c) r n).trans (congrArg _ (emb6 t r n).symm)

theorem final_norms : (dats m 0 c).arrAt 7 cfg0.N = norms (Wt m c) (Sc m c) (A m c) (B m c) := by
  refine (dats m 0 c).arrAt_eq_of_covers 7 _ (by decide +kernel) fun t hf y => ?_
  blk_simp
  rw [after0_7, blk0, blk1, blk2, blk3, blk4, blk5, V_v0, V_v1, V_v2, V_main_arg1, V_main_arg3, V_main_arg4]
  obtain ⟨n, rfl⟩ : ∃ n, y = (ix2 0 n : S1x5120.Idx) := ⟨y 1,
    (eq_ix2 y).trans (congrArg (fun z => (ix2 z (y 1) : S1x5120.Idx)) (Subsingleton.elim (α := Fin 1) _ _))⟩
  exact (out7_at (X m c) (Wt m c) (Sc m c) (A m c) (B m c) (Mg m c) n).trans (congrArg _ (emb7 t n).symm)

theorem final_codes : (dats m 0 c).arrAt 8 cfg0.N = codes (X m c) := by
  refine (dats m 0 c).arrAt_eq_of_covers 8 _ (by decide +kernel) fun t hf y => ?_
  blk_simp
  rw [after0_8, blk0, blk1, blk2, blk3, blk4, blk5, V_v0, V_v1, V_v2, V_main_arg1, V_main_arg3, V_main_arg4]
  obtain ⟨r, k, rfl⟩ : ∃ r k, y = (ix2 r k : S4096x16384.Idx) := ⟨y 0, y 1, eq_ix2 y⟩
  exact (out8_at (X m c) (Wt m c) (Sc m c) (A m c) (B m c) (Mg m c) r k).trans (congrArg _ (emb8 t r k).symm)

theorem final_scales : (dats m 0 c).arrAt 9 cfg0.N = scales (X m c) := by
  refine (dats m 0 c).arrAt_eq_of_covers 9 _ (by decide +kernel) fun t hf y => ?_
  blk_simp
  rw [after0_9, blk0, blk1, blk2, blk3, blk4, blk5, V_v0, V_v1, V_v2, V_main_arg1, V_main_arg3, V_main_arg4]
  obtain ⟨r, rfl⟩ : ∃ r, y = (ix2 r 0 : S4096x1.Idx) := ⟨y 0,
    (eq_ix2 y).trans (congrArg (fun z => (ix2 (y 0) z : S4096x1.Idx)) (Subsingleton.elim (α := Fin 1) _ _))⟩
  exact (out9_at (X m c) (Wt m c) (Sc m c) (A m c) (B m c) (Mg m c) r).trans (congrArg _ (emb9 t r).symm)

/-! ## The run -/

/-- What the lines after the call make of the call's arrays. -/
theorem tail_v4 : Pipeline.afterTail₀ cfgs (dats m) 0 (V0 m) [hostOps1] c main_v4
    = shapeCast S2x2048x5120 (outs (X m c) (Wt m c) (Sc m c) (A m c) (B m c) (Mg m c)) shapeCasts_S4096x5120_S2x2048x5120 := by
  have h := (Pipeline.withArrays_arr spec0 launch0.win.arr_inj c (V0 m c) (fun w => (dats m 0 c).arrAt w (cfgs 0).N) 6).trans (final_outs m c)
  unfold Pipeline.afterTail₀
  simp only [List.flatten_cons, List.flatten_nil, List.append_nil]
  after_results
  exact congrArg (fun z => shapeCast S2x2048x5120 z shapeCasts_S4096x5120_S2x2048x5120) h
theorem tail_v5 : Pipeline.afterTail₀ cfgs (dats m) 0 (V0 m) [hostOps1] c main_v5
    = shapeCast S5120 (norms (Wt m c) (Sc m c) (A m c) (B m c)) shapeCasts_S1x5120_S5120 := by
  have h := (Pipeline.withArrays_arr spec0 launch0.win.arr_inj c (V0 m c) (fun w => (dats m 0 c).arrAt w (cfgs 0).N) 7).trans (final_norms m c)
  unfold Pipeline.afterTail₀
  simp only [List.flatten_cons, List.flatten_nil, List.append_nil]
  after_results
  exact congrArg (fun z => shapeCast S5120 z shapeCasts_S1x5120_S5120) h
theorem tail_v6 : Pipeline.afterTail₀ cfgs (dats m) 0 (V0 m) [hostOps1] c main_v6
    = shapeCast S2x2048x16384 (codes (X m c)) shapeCasts_S4096x16384_S2x2048x16384 := by
  have h := (Pipeline.withArrays_arr spec0 launch0.win.arr_inj c (V0 m c) (fun w => (dats m 0 c).arrAt w (cfgs 0).N) 8).trans (final_codes m c)
  unfold Pipeline.afterTail₀
  simp only [List.flatten_cons, List.flatten_nil, List.append_nil]
  after_results
  exact congrArg (fun z => shapeCast S2x2048x16384 z shapeCasts_S4096x16384_S2x2048x16384) h
theorem tail_v7 : Pipeline.afterTail₀ cfgs (dats m) 0 (V0 m) [hostOps1] c main_v7
    = shapeCast S2x2048 (scales (X m c)) shapeCasts_S4096x1_S2x2048 := by
  have h := (Pipeline.withArrays_arr spec0 launch0.win.arr_inj c (V0 m c) (fun w => (dats m 0 c).arrAt w (cfgs 0).N) 9).trans (final_scales m c)
  unfold Pipeline.afterTail₀
  simp only [List.flatten_cons, List.flatten_nil, List.append_nil]
  after_results
  exact congrArg (fun z => shapeCast S2x2048 z shapeCasts_S4096x1_S2x2048) h

/-- The reference runs to its end with the four results, its arguments unchanged. -/
theorem run : θ_run defs (onTc (τ := τ) (main (F := Ideal))) ⟨m, fun _ => 0, ρ⟩ (fun r => ∀ c : Dev nD,
      r.2.mem ((c.tc : Thread nD τ).loc main_v4)
        = shapeCast S2x2048x5120 (outs (X m c) (Wt m c) (Sc m c) (A m c) (B m c) (Mg m c)) shapeCasts_S4096x5120_S2x2048x5120
      ∧ r.2.mem ((c.tc : Thread nD τ).loc main_v5)
        = shapeCast S5120 (norms (Wt m c) (Sc m c) (A m c) (B m c)) shapeCasts_S1x5120_S5120
      ∧ r.2.mem ((c.tc : Thread nD τ).loc main_v6)
        = shapeCast S2x2048x16384 (codes (X m c)) shapeCasts_S4096x16384_S2x2048x16384
      ∧ r.2.mem ((c.tc : Thread nD τ).loc main_v7)
        = shapeCast S2x2048 (scales (X m c)) shapeCasts_S4096x1_S2x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v4 (Pipeline.mem_restRefs_of main_v4 (by decide) (by decide))).trans (tail_v4 m c),
      ((h c).2 main_v5 (Pipeline.mem_restRefs_of main_v5 (by decide) (by decide))).trans (tail_v5 m c),
      ((h c).2 main_v6 (Pipeline.mem_restRefs_of main_v6 (by decide) (by decide))).trans (tail_v6 m c),
      ((h c).2 main_v7 (Pipeline.mem_restRefs_of main_v7 (by decide) (by decide))).trans (tail_v7 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.ReferenceIdeal.Results

end
-- ==== Proof.PreVal.lean ====
/-
  THE PRECONDITION AT A TOKEN: where the precondition holds, every token is one the quantiser is claimed on (`Good`).
-/
module

public import proofs.«01_k».proof.Pre_scales_in_range
public import proofs.«01_k».proof.Proof.Spec
public import Idealize.ShloMosaic.Lib.Pointwise
public import Idealize.ShloMosaic.Lib.Pipeline.ValueKit

@[expose] public section

set_option maxRecDepth 16384

noncomputable section

namespace Cert.Pre_scales_in_range.Val

open Cert.Pre_scales_in_range
open Idealize.ShloMosaic Cert.Proof.Spec Cert.Proof.Pow2

variable [Facts]
open Facts

/-- The maximum along the last dimension. -/
theorem hostmax (v : FVec Ideal S2x2048x16384 .f32) (b : Fin 2) (s : Fin 2048) :
    (Host.reduce FloatOps.maximumf v (constant S_ .f32 0xFF800000#32) reducesTo_S2x2048x16384_S2x2048_d2 h_S_) (ix2 b s)
      = Finset.fold max ⊥ (fun k => v (ix3 b s k)) Finset.univ := by
  pointwise
  rw [neg_inf_f32]

/-- The word that three comparisons make is true only where the first holds or the other two do. -/
private theorem of_word (p q r : Prop) [Decidable p] [Decidable q] [Decidable r]
    (h : IntOp.ori (BitVec.ofBool (decide p)) (IntOp.andi (BitVec.ofBool (decide q)) (BitVec.ofBool (decide r))) = 1#1) :
    p ∨ (q ∧ r) := by
  by_cases h1 : p
  · exact .inl h1
  by_cases h2 : q
  · by_cases h3 : r
    · exact .inr ⟨h2, h3⟩
    · rw [decide_eq_false h1, decide_eq_true h2, decide_eq_false h3] at h
      exact absurd h (by decide)
  · rw [decide_eq_false h1, decide_eq_false h2] at h
    generalize decide r = t at h
    clear h1 h2
    cases t <;> exact absurd h (by decide)

private theorem good_of (A : EReal) (h : A = 0 ∨ (Ideal.ofBits .f32 8388608#32 ≤ A * Ideal.ofBits .f32 991054117#32
    ∧ A * Ideal.ofBits .f32 991054117#32 < Ideal.ofBits .f32 2122317824#32)) : Good A := h

private theorem abs_at (x : FVec Ideal S2x2048x16384 .bf16) (i : S2x2048x16384.Idx) :
    Host.absf (extf .f32 x bitsLt_bf16_f32) i = FloatOps.absf (F := Ideal) (φ := .f32) (x i) := by
  pointwise

/-- The largest magnitudes of the tokens, as the precondition computes them. -/
def rmax (x : FVec Ideal S2x2048x16384 .bf16) : FVec Ideal S2x2048 .f32 :=
  Host.reduce FloatOps.maximumf (Host.absf (extf .f32 x bitsLt_bf16_f32)) (constant S_ .f32 0xFF800000#32)
    reducesTo_S2x2048x16384_S2x2048_d2 h_S_

/-- The precondition's comparisons of magnitudes. -/
def word (w : FVec Ideal S2x2048 .f32) : IVec S2x2048 1 :=
  ori (cmpf .oeq w (broadcastInDim S2x2048 ![] bcast_S_S2x2048 (constant S_ .f32 0x00000000#32)))
    (andi
      (cmpf .oge (mulf w (broadcastInDim S2x2048 ![] bcast_S_S2x2048 (constant S_ .f32 0x3B124925#32)))
        (broadcastInDim S2x2048 ![] bcast_S_S2x2048 (constant S_ .f32 0x00800000#32)))
      (cmpf .olt (mulf w (broadcastInDim S2x2048 ![] bcast_S_S2x2048 (constant S_ .f32 0x3B124925#32)))
        (broadcastInDim S2x2048 ![] bcast_S_S2x2048 (constant S_ .f32 0x7E800000#32))))

theorem fn_eq (x : FVec Ideal S2x2048x16384 .bf16) (a1 : FVec Ideal S16384x5120 .fp8e4m3) (a2 : FVec Ideal S5120 .f32)
    (a3 : FVec Ideal S16384x48 .bf16) (a4 : FVec Ideal S48x5120 .bf16) (a5 : FVec Ideal S5120 .f32) :
    fn (F := Ideal) x a1 a2 a3 a4 a5 = word (rmax x) := by
  unfold fn word rmax
  rfl

theorem rmax_at (x : FVec Ideal S2x2048x16384 .bf16) (b : Fin 2) (s : Fin 2048) :
    rmax x (ix2 b s) = amax fun k => x (ix3 b s k) := by
  unfold rmax amax
  rw [hostmax]
  simp only [abs_at]

theorem word_good (w : FVec Ideal S2x2048 .f32) (b : Fin 2) (s : Fin 2048) (h : word w (ix2 b s) = 1#1) :
    Good (w (ix2 b s)) := by
  unfold word at h
  pointwise at h
  exact good_of _ (of_word _ _ _ h)

/-- Where the precondition holds, token `s` of batch `b` is good. -/
theorem fn_at (x : FVec Ideal S2x2048x16384 .bf16) (a1 : FVec Ideal S16384x5120 .fp8e4m3) (a2 : FVec Ideal S5120 .f32)
    (a3 : FVec Ideal S16384x48 .bf16) (a4 : FVec Ideal S48x5120 .bf16) (a5 : FVec Ideal S5120 .f32)
    (h : fn (F := Ideal) x a1 a2 a3 a4 a5 = fun _ => 1#1) (b : Fin 2) (s : Fin 2048) :
    Good (amax fun k => x (ix3 b s k)) := by
  rw [fn_eq] at h
  rw [← rmax_at]
  exact word_good _ b s (congrFun h _)

end Cert.Pre_scales_in_range.Val

end
-- ==== Proof.Compare.lean ====
/-
  THE TWO PROGRAMS AGREE: from equal arguments, every one of the kernel's four results is the reference's.
-/
module

public import proofs.«01_k».proof.Defs
public import proofs.«01_k».proof.Proof.Run
public import proofs.«01_k».proof.Proof.KVal
public import proofs.«01_k».proof.Proof.RefVal
public import proofs.«01_k».proof.Proof.PreVal
public import proofs.«01_k».proof.Proof.Gen.Pre_scales_in_range

@[expose] public section

set_option maxRecDepth 16384

noncomputable section

namespace Cert.Proof.Compare

open Idealize.ShloMosaic Idealize.ShloMosaic.TcCoe Idealize.SL.Sem
open Cert.Proof.Spec Cert.Proof.Pow2

/-! ## The arrays, over any arguments -/

variable (x : FVec Ideal KernelIdeal.S4096x16384 .bf16) (w : FVec Ideal KernelIdeal.S16384x5120 .fp8e4m3)
  (s g : FVec Ideal KernelIdeal.S1x5120 .f32) (a : FVec Ideal KernelIdeal.S16384x48 .bf16) (b : FVec Ideal KernelIdeal.S48x5120 .bf16)

theorem norms_eq : ReferenceIdeal.Results.norms w s a b = KernelIdeal.Norm.norms w s a b := rfl
theorem codes_eq : ReferenceIdeal.Results.codes x = KernelIdeal.Quant.codes x := rfl
theorem outs_eq : ReferenceIdeal.Results.outs x w s a b g
    = KernelIdeal.Out.outs (KernelIdeal.Quant.codes x) w (KernelIdeal.Quant.scales x) s (KernelIdeal.Quant.low x a) b g
        (KernelIdeal.Norm.norms w s a b) := rfl

/-- The kernel cuts the first of 128 copies of each scale out and reshapes twice; the reference reshapes one column once. -/
theorem cut_eq (f : FVec Ideal KernelIdeal.S4096x128 .f32) (e : FVec Ideal ReferenceIdeal.S4096x1 .f32)
    (h : ∀ r : Fin 4096, f (ix2 r 0) = e (ix2 r 0)) :
    shapeCast KernelIdeal.S2x2048 (shapeCast KernelIdeal.S4096 (extractStridedSlice KernelIdeal.S4096x1 ![0, 0] f
        KernelIdeal.Gen.slices_S4096x128_S4096x1_0_0) KernelIdeal.Gen.shapeCasts_S4096x1_S4096) KernelIdeal.Gen.shapeCasts_S4096_S2x2048
      = shapeCast ReferenceIdeal.S2x2048 e ReferenceIdeal.Gen.shapeCasts_S4096x1_S2x2048 := by
  funext i
  idx_vars i
  pointwise
  exact h _

theorem scales_eq :
    shapeCast KernelIdeal.S2x2048 (shapeCast KernelIdeal.S4096 (extractStridedSlice KernelIdeal.S4096x1 ![0, 0]
        (KernelIdeal.Quant.scales x) KernelIdeal.Gen.slices_S4096x128_S4096x1_0_0) KernelIdeal.Gen.shapeCasts_S4096x1_S4096)
        KernelIdeal.Gen.shapeCasts_S4096_S2x2048
      = shapeCast ReferenceIdeal.S2x2048 (ReferenceIdeal.Results.scales x) ReferenceIdeal.Gen.shapeCasts_S4096x1_S2x2048 :=
  cut_eq _ _ fun r => rfl

/-- Row `r` of the reshaped tokens is token `r % 2048` of batch `r / 2048`. -/
theorem reshape_at (x : FVec Ideal KernelIdeal.S2x2048x16384 .bf16) (r : Fin 4096) (k : Fin 16384) :
    shapeCast KernelIdeal.S4096x16384 x KernelIdeal.Gen.shapeCasts_S2x2048x16384_S4096x16384 (ix2 r k)
      = x (ix3 (⟨r.val / 2048, by omega⟩ : Fin 2) (⟨r.val % 2048, by omega⟩ : Fin 2048) k) := by
  pointwise

/-! ## The claim -/

/-- Where the precondition holds, every row of the kernel's tokens is one the quantiser is claimed on. -/
theorem good (m : (ℓ : Loc KernelIdeal.nD KernelIdeal.τ KernelIdeal.sig) → Buf (Elt Ideal) ℓ)
    (h : Pre_KernelIdeal_scales_in_range (hPre_scales_in_range := Pre_scales_in_range.Gen.facts) m)
    (c : Dev KernelIdeal.nD) (r : Fin 4096) : Good (amax fun k => KernelIdeal.Results.X m c (ix2 r k)) := by
  have e : (fun k => KernelIdeal.Results.X m c (ix2 r k)) = fun k => (m ((c.tc : Thread KernelIdeal.nD KernelIdeal.τ).loc KernelIdeal.main_arg0)
      : FVec Ideal KernelIdeal.S2x2048x16384 .bf16) (ix3 (⟨r.val / 2048, by omega⟩ : Fin 2) (⟨r.val % 2048, by omega⟩ : Fin 2048) k) :=
    funext fun k => reshape_at _ r k
  rw [e]
  exact Pre_scales_in_range.Val.fn_at _ _ _ _ _ _ (h c) _ _

/-- The kernel and the reference, from equal arguments, end with equal results. -/
theorem algebraic : algebraic_KernelIdeal_ReferenceIdeal_pre_scales_in_range
    (hKernelIdeal := KernelIdeal.Gen.facts) (hReferenceIdeal := ReferenceIdeal.Gen.facts)
    (hPre_scales_in_range := Pre_scales_in_range.Gen.facts) := by
  intro m ρ m' ρ' hpre hargs
  have hG := good m hpre
  refine ⟨fun c => shapeCast KernelIdeal.S2x2048x5120 (KernelIdeal.Results.O m c) KernelIdeal.Gen.shapeCasts_S4096x5120_S2x2048x5120,
    fun c => shapeCast KernelIdeal.S5120 (KernelIdeal.Results.N m c) KernelIdeal.Gen.shapeCasts_S1x5120_S5120,
    fun c => shapeCast KernelIdeal.S2x2048x16384 (KernelIdeal.Quant.codes (KernelIdeal.Results.X m c))
      KernelIdeal.Gen.shapeCasts_S4096x16384_S2x2048x16384,
    fun c => shapeCast KernelIdeal.S2x2048 (shapeCast KernelIdeal.S4096 (extractStridedSlice KernelIdeal.S4096x1 ![0, 0]
      (KernelIdeal.Quant.scales (KernelIdeal.Results.X m c)) KernelIdeal.Gen.slices_S4096x128_S4096x1_0_0)
      KernelIdeal.Gen.shapeCasts_S4096x1_S4096) KernelIdeal.Gen.shapeCasts_S4096_S2x2048, ?_, ?_⟩
  · refine (θ_run _ _ _).mono (fun r h c => ?_) (KernelIdeal.Run.run m ρ)
    obtain ⟨h6, h7, h8, h11, hrest⟩ := h c
    refine ⟨h6.trans ?_, h7.trans ?_, h8.trans ?_, h11.trans ?_, hrest⟩
    · rw [KernelIdeal.Results.read_v6, KernelIdeal.Results.W4_outs m ρ c hG]
    · rw [KernelIdeal.Results.read_v7, KernelIdeal.Results.W4_norms m ρ c]
    · rw [KernelIdeal.Results.read_v8, KernelIdeal.Results.W4_codes m ρ c hG]
    · rw [KernelIdeal.Results.read_v11, KernelIdeal.Results.W4_scales m ρ c hG]
  · refine (θ_run _ _ _).mono (fun r h c => ?_) (ReferenceIdeal.Results.run m' ρ')
    obtain ⟨h4, h5, h6, h7, hrest⟩ := h c
    obtain ⟨e0, e1, e2, e3, e4, e5⟩ := hargs c
    rw [ReferenceIdeal.Results.X, ReferenceIdeal.Results.Wt, ReferenceIdeal.Results.Sc, ReferenceIdeal.Results.A,
      ReferenceIdeal.Results.B, ReferenceIdeal.Results.Mg, e0, e1, e2, e3, e4, e5] at h4
    rw [ReferenceIdeal.Results.Wt, ReferenceIdeal.Results.Sc, ReferenceIdeal.Results.A, ReferenceIdeal.Results.B, e1, e2, e3, e4] at h5
    rw [ReferenceIdeal.Results.X, e0] at h6 h7
    refine ⟨h4.trans ?_, h5.trans ?_, h6.trans ?_, h7.trans ?_, hrest⟩
    · exact congrArg (fun z => shapeCast KernelIdeal.S2x2048x5120 z KernelIdeal.Gen.shapeCasts_S4096x5120_S2x2048x5120) (outs_eq _ _ _ _ _ _)
    · exact congrArg (fun z => shapeCast KernelIdeal.S5120 z KernelIdeal.Gen.shapeCasts_S1x5120_S5120) (norms_eq _ _ _ _)
    · exact congrArg (fun z => shapeCast KernelIdeal.S2x2048x16384 z KernelIdeal.Gen.shapeCasts_S4096x16384_S2x2048x16384) (codes_eq _)
    · exact (scales_eq _).symm

end Cert.Proof.Compare

end
-- ==== Proof.lean ====
/-
  THE PROOF OF THE CLAIM. The frames are the generated ones; the idealization rewrote no operation; and the value claim, that
  the kernel and the reference end with equal results, is `Compare.algebraic`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_in_range
public import proofs.«01_k».proof.Proof.Compare
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_scales_in_range.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, trivial, Compare.algebraic⟩

end Cert.Proof

end
